-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)) →
    ∃ (v0 : (c : Dev Cert.XattnIdeal.nD) → Buf (Elt Ideal) ((c.tc : Thread Cert.XattnIdeal.nD Cert.XattnIdeal.τ).loc Cert.XattnIdeal.main_v8_0)) (v1 : (c : Dev Cert.XattnIdeal.nD) → Buf (Elt Ideal) ((c.tc : Thread Cert.XattnIdeal.nD Cert.XattnIdeal.τ).loc Cert.XattnIdeal.main_v8_1)) (v2 : (c : Dev Cert.XattnIdeal.nD) → Buf (Elt Ideal) ((c.tc : Thread Cert.XattnIdeal.nD Cert.XattnIdeal.τ).loc Cert.XattnIdeal.main_v8_2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v8_0) = v0 c
          ∧ r.2.mem ((c.tc : Thread Cert.XattnIdeal.nD Cert.XattnIdeal.τ).loc Cert.XattnIdeal.main_v8_1) = v1 c
          ∧ r.2.mem ((c.tc : Thread Cert.XattnIdeal.nD Cert.XattnIdeal.τ).loc Cert.XattnIdeal.main_v8_2) = v2 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v52) = v0 c
          ∧ r.2.mem ((c.tc : Thread Cert.XattnRefIdeal.nD Cert.XattnRefIdeal.τ).loc Cert.XattnRefIdeal.main_v66) = v1 c
          ∧ r.2.mem ((c.tc : Thread Cert.XattnRefIdeal.nD Cert.XattnRefIdeal.τ).loc Cert.XattnRefIdeal.main_v67) = v2 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v19) = v0 c
          ∧ r.2.mem ((c.tc : Thread Cert.QkvRefIdeal.nD Cert.QkvRefIdeal.τ).loc Cert.QkvRefIdeal.main_v30) = v1 c
          ∧ r.2.mem ((c.tc : Thread Cert.QkvRefIdeal.nD Cert.QkvRefIdeal.τ).loc Cert.QkvRefIdeal.main_v41) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v5)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v5) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v30) = v0 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hXattn : Cert.Xattn.Facts) (hXattnIdeal : Cert.XattnIdeal.Facts) (hXattnRefIdeal : Cert.XattnRefIdeal.Facts) (hQkv : Cert.Qkv.Facts) (hQkvIdeal : Cert.QkvIdeal.Facts) (hQkvRefIdeal : Cert.QkvRefIdeal.Facts) (hOutLn : Cert.OutLn.Facts) (hOutLnIdeal : Cert.OutLnIdeal.Facts) (hOutLnRefIdeal : Cert.OutLnRefIdeal.Facts) (hMemKv : Cert.MemKv.Facts) (hMemKvIdeal : Cert.MemKvIdeal.Facts) (hMemKvRefIdeal : Cert.MemKvRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Xattn (hXattn := hXattn)
    ∧ quiescent_XattnIdeal (hXattnIdeal := hXattnIdeal)
    ∧ quiescent_XattnRefIdeal (hXattnRefIdeal := hXattnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Xattn_XattnIdeal
    ∧ algebraic_XattnIdeal_XattnRefIdeal (hXattnIdeal := hXattnIdeal) (hXattnRefIdeal := hXattnRefIdeal)
    ∧ preserves_Qkv_QkvIdeal
    ∧ algebraic_QkvIdeal_QkvRefIdeal (hQkvIdeal := hQkvIdeal) (hQkvRefIdeal := hQkvRefIdeal)
    ∧ preserves_OutLn_OutLnIdeal
    ∧ algebraic_OutLnIdeal_OutLnRefIdeal (hOutLnIdeal := hOutLnIdeal) (hOutLnRefIdeal := hOutLnRefIdeal)
    ∧ preserves_MemKv_MemKvIdeal
    ∧ algebraic_MemKvIdeal_MemKvRefIdeal (hMemKvIdeal := hMemKvIdeal) (hMemKvRefIdeal := hMemKvRefIdeal)
-- ==== Pre_finite_scores.lean ====
abbrev S4x8192x1024 : Shape := ⟨3, ![4, 8192, 1024]⟩
abbrev S4x128x4x32x1024 : Shape := ⟨5, ![4, 128, 4, 32, 1024]⟩
abbrev S16x15x31 : Shape := ⟨3, ![16, 15, 31]⟩
abbrev S_ : Shape := ⟨0, ![]⟩

class Facts : Prop where
  bitsLt_bf16_f32 : FTy.bits .bf16 < FTy.bits .f32
  bcast_S_S4x8192x1024 : S_.BroadcastsInDim S4x8192x1024 (![] : Fin 0 → Fin S4x8192x1024.rank)
  bcast_S_S4x128x4x32x1024 : S_.BroadcastsInDim S4x128x4x32x1024 (![] : Fin 0 → Fin S4x128x4x32x1024.rank)
  bcast_S_S16x15x31 : S_.BroadcastsInDim S16x15x31 (![] : Fin 0 → Fin S16x15x31.rank)

variable [Facts]

def fn {F : FTy → Type} [FloatOps F] (main_arg0 : FVec F S4x8192x1024 .bf16) (main_arg1 : FVec F S4x128x4x32x1024 .bf16) (main_arg2 : FVec F S4x128x4x32x1024 .bf16) (main_arg3 : FVec F S16x15x31 .f32) (main_arg4 : FVec F S_ .f32) : IVec S4x8192x1024 1 × IVec S4x128x4x32x1024 1 × IVec S16x15x31 1 × IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_v4 : FVec F S4x128x4x32x1024 .f32 := (extf .f32 · bitsLt_bf16_f32) main_arg1
  let main_v5 : FVec F S4x128x4x32x1024 .f32 := Host.absf main_v4
  let main_cst_0 : FVec F S_ .f32 := constant S_ .f32 0x7F800000#32
  let main_v6 : FVec F S4x128x4x32x1024 .f32 := broadcastInDim S4x128x4x32x1024 ![] bcast_S_S4x128x4x32x1024 main_cst_0
  let main_v7 : IVec S4x128x4x32x1024 1 := cmpf .olt main_v5 main_v6
  let main_v8 : FVec F S16x15x31 .f32 := Host.absf main_arg3
  let main_cst_1 : FVec F S_ .f32 := constant S_ .f32 0x7F800000#32
  let main_v9 : FVec F S16x15x31 .f32 := broadcastInDim S16x15x31 ![] bcast_S_S16x15x31 main_cst_1
  let main_v10 : IVec S16x15x31 1 := cmpf .olt main_v8 main_v9
  let main_cst_2 : FVec F S_ .f32 := constant S_ .f32 0xFF800000#32
  let main_v11 : IVec S_ 1 := cmpf .oeq main_arg4 main_cst_2
  (main_v3, main_v7, main_v10, main_v11)
-- ==== Kernel.lean ====
abbrev S4x8192x1024 : Shape := ⟨3, ![4, 8192, 1024]⟩
abbrev S4x128x4x32x1024 : Shape := ⟨5, ![4, 128, 4, 32, 1024]⟩
abbrev S16x15x31 : Shape := ⟨3, ![16, 15, 31]⟩
abbrev S_ : Shape := ⟨0, ![]⟩
abbrev S4 : Shape := ⟨1, ![4]⟩
abbrev S4x1x1 : Shape := ⟨3, ![4, 1, 1]⟩
abbrev S8 : Shape := ⟨1, ![8]⟩
abbrev S8x1 : Shape := ⟨2, ![8, 1]⟩
abbrev S16 : Shape := ⟨1, ![16]⟩
abbrev S1x16 : Shape := ⟨2, ![1, 16]⟩
abbrev S8x16 : Shape := ⟨2, ![8, 16]⟩
abbrev S1x8x16 : Shape := ⟨3, ![1, 8, 16]⟩
abbrev S3x8x16 : Shape := ⟨3, ![3, 8, 16]⟩
abbrev S1x1x16 : Shape := ⟨3, ![1, 1, 16]⟩
abbrev S1x16x1 : Shape := ⟨3, ![1, 16, 1]⟩
abbrev S4x16x1 : Shape := ⟨3, ![4, 16, 1]⟩
abbrev S32 : Shape := ⟨1, ![32]⟩
abbrev S1x1x32 : Shape := ⟨3, ![1, 1, 32]⟩
abbrev S4x1x32 : Shape := ⟨3, ![4, 1, 32]⟩
abbrev S4x16x32 : Shape := ⟨3, ![4, 16, 32]⟩
abbrev S4x16x32x1 : Shape := ⟨4, ![4, 16, 32, 1]⟩
abbrev S31 : Shape := ⟨1, ![31]⟩
abbrev S1x1x1x31 : Shape := ⟨4, ![1, 1, 1, 31]⟩
abbrev S4x16x32x31 : Shape := ⟨4, ![4, 16, 32, 31]⟩
abbrev S8x16x1 : Shape := ⟨3, ![8, 16, 1]⟩
abbrev S15 : Shape := ⟨1, ![15]⟩
abbrev S1x1x15 : Shape := ⟨3, ![1, 1, 15]⟩
abbrev S8x16x15 : Shape := ⟨3, ![8, 16, 15]⟩
abbrev S16x15x1x1x1x31 : Shape := ⟨6, ![16, 15, 1, 1, 1, 31]⟩
abbrev S1x1x4x16x32x31 : Shape := ⟨6, ![1, 1, 4, 16, 32, 31]⟩
abbrev S16x15x4x16x32x31 : Shape := ⟨6, ![16, 15, 4, 16, 32, 31]⟩
abbrev S16x15x4x16x32 : Shape := ⟨5, ![16, 15, 4, 16, 32]⟩
abbrev S4x16x16x32x15 : Shape := ⟨5, ![4, 16, 16, 32, 15]⟩
abbrev S4x16x1x16x1x32x15 : Shape := ⟨7, ![4, 16, 1, 16, 1, 32, 15]⟩
abbrev S1x1x8x1x16x1x15 : Shape := ⟨7, ![1, 1, 8, 1, 16, 1, 15]⟩
abbrev S4x16x8x16x16x32x15 : Shape := ⟨7, ![4, 16, 8, 16, 16, 32, 15]⟩
abbrev S4x16x8x16x16x32 : Shape := ⟨6, ![4, 16, 8, 16, 16, 32]⟩
abbrev S1x3x1x8x1x16x1 : Shape := ⟨7, ![1, 3, 1, 8, 1, 16, 1]⟩
abbrev S4x1x1x1x16x1x32 : Shape := ⟨7, ![4, 1, 1, 1, 16, 1, 32]⟩
abbrev S4x3x1x8x16x16x32 : Shape := ⟨7, ![4, 3, 1, 8, 16, 16, 32]⟩
abbrev S4x1x16x8x16x16x32 : Shape := ⟨7, ![4, 1, 16, 8, 16, 16, 32]⟩
abbrev S4x3x16x8x16x16x32 : Shape := ⟨7, ![4, 3, 16, 8, 16, 16, 32]⟩
abbrev S4x3x8x256x512 : Shape := ⟨5, ![4, 3, 8, 256, 512]⟩
abbrev S4x128x4x16x1024 : Shape := ⟨5, ![4, 128, 4, 16, 1024]⟩
abbrev S4x32x4x4x32x1024 : Shape := ⟨6, ![4, 32, 4, 4, 32, 1024]⟩
abbrev S4x16x8x4x32x1024 : Shape := ⟨6, ![4, 16, 8, 4, 32, 1024]⟩
abbrev S1x8x1x16x1024 : Shape := ⟨5, ![1, 8, 1, 16, 1024]⟩
abbrev S1x1x4x1x32x1024 : Shape := ⟨6, ![1, 1, 4, 1, 32, 1024]⟩
abbrev S1x1x8x1x32x1024 : Shape := ⟨6, ![1, 1, 8, 1, 32, 1024]⟩
abbrev S1x1x8x256x512 : Shape := ⟨5, ![1, 1, 8, 256, 512]⟩
abbrev S512x1024 : Shape := ⟨2, ![512, 1024]⟩
abbrev S4x32x1024 : Shape := ⟨3, ![4, 32, 1024]⟩
abbrev S128x1024 : Shape := ⟨2, ![128, 1024]⟩
abbrev S8x32x1024 : Shape := ⟨3, ![8, 32, 1024]⟩
abbrev S256x1024 : Shape := ⟨2, ![256, 1024]⟩
abbrev S8x16x1024 : Shape := ⟨3, ![8, 16, 1024]⟩
abbrev S128x128 : Shape := ⟨2, ![128, 128]⟩
abbrev S256x128 : Shape := ⟨2, ![256, 128]⟩
abbrev S512x128 : Shape := ⟨2, ![512, 128]⟩
abbrev S256x512 : Shape := ⟨2, ![256, 512]⟩
abbrev S1x1x1x256x512 : Shape := ⟨5, ![1, 1, 1, 256, 512]⟩
abbrev S256 : Shape := ⟨1, ![256]⟩
abbrev S256x1 : Shape := ⟨2, ![256, 1]⟩
abbrev S8x16x128 : Shape := ⟨3, ![8, 16, 128]⟩
abbrev S1x8x1x16x128 : Shape := ⟨5, ![1, 8, 1, 16, 128]⟩

abbrev nBuf : Space → Nat
  | .hbm => 176
  | .vmem => 20
  | .smem => 0
  | _ => 0

abbrev hbmTy0_0 (i : Nat) : BufTy := match i % 128 with
  | 0 => ⟨S4x8192x1024, .bf16⟩
  | 1 => ⟨S4x128x4x32x1024, .bf16⟩
  | 2 => ⟨S4x128x4x32x1024, .bf16⟩
  | 3 => ⟨S16x15x31, .f32⟩
  | 4 => ⟨S_, .f32⟩
  | 5 => ⟨S4, .i32⟩
  | 6 => ⟨S4x1x1, .i32⟩
  | 7 => ⟨S8, .i32⟩
  | 8 => ⟨S8x1, .i32⟩
  | 9 => ⟨S16, .i32⟩
  | 10 => ⟨S1x16, .i32⟩
  | 11 => ⟨S_, .i32⟩
  | 12 => ⟨S8x1, .i32⟩
  | 13 => ⟨S8x1, .i32⟩
  | 14 => ⟨S_, .i32⟩
  | 15 => ⟨S8x1, .i32⟩
  | 16 => ⟨S8x1, .i32⟩
  | 17 => ⟨S_, .i32⟩
  | 18 => ⟨S1x16, .i32⟩
  | 19 => ⟨S1x16, .i32⟩
  | 20 => ⟨S8x16, .i32⟩
  | 21 => ⟨S8x16, .i32⟩
  | 22 => ⟨S8x16, .i32⟩
  | 23 => ⟨S_, .i32⟩
  | 24 => ⟨S8x1, .i32⟩
  | 25 => ⟨S8x1, .i32⟩
  | 26 => ⟨S_, .i32⟩
  | 27 => ⟨S1x16, .i32⟩
  | 28 => ⟨S1x16, .i32⟩
  | 29 => ⟨S8x16, .i32⟩
  | 30 => ⟨S8x16, .i32⟩
  | 31 => ⟨S8x16, .i32⟩
  | 32 => ⟨S_, .i32⟩
  | 33 => ⟨S8x1, .i32⟩
  | 34 => ⟨S8x1, .i32⟩
  | 35 => ⟨S_, .i32⟩
  | 36 => ⟨S8x1, .i32⟩
  | 37 => ⟨S8x1, .i32⟩
  | 38 => ⟨S_, .i32⟩
  | 39 => ⟨S1x16, .i32⟩
  | 40 => ⟨S1x16, .i32⟩
  | 41 => ⟨S8x16, .i32⟩
  | 42 => ⟨S8x16, .i32⟩
  | 43 => ⟨S8x16, .i32⟩
  | 44 => ⟨S1x8x16, .i32⟩
  | 45 => ⟨S1x8x16, .i32⟩
  | 46 => ⟨S1x8x16, .i32⟩
  | 47 => ⟨S3x8x16, .i32⟩
  | 48 => ⟨S_, .i32⟩
  | 49 => ⟨S1x16, .i32⟩
  | 50 => ⟨S1x16, .i32⟩
  | 51 => ⟨S1x1x16, .i32⟩
  | 52 => ⟨S3x8x16, .i32⟩
  | 53 => ⟨S3x8x16, .i1⟩
  | 54 => ⟨S_, .i32⟩
  | 55 => ⟨S3x8x16, .i32⟩
  | 56 => ⟨S3x8x16, .i32⟩
  | 57 => ⟨S1x1x16, .i32⟩
  | 58 => ⟨S3x8x16, .i32⟩
  | 59 => ⟨S3x8x16, .i1⟩
  | 60 => ⟨S3x8x16, .i1⟩
  | 61 => ⟨S8x16, .i32⟩
  | 62 => ⟨S8x16, .i32⟩
  | 63 => ⟨S8x16, .i32⟩
  | 64 => ⟨S_, .i32⟩
  | 65 => ⟨S8x16, .i32⟩
  | 66 => ⟨S8x16, .i32⟩
  | 67 => ⟨S_, .i32⟩
  | 68 => ⟨S_, .i32⟩
  | 69 => ⟨S_, .i32⟩
  | 70 => ⟨S8x16, .i32⟩
  | 71 => ⟨S8x16, .i32⟩
  | 72 => ⟨S_, .i32⟩
  | 73 => ⟨S8x16, .i32⟩
  | 74 => ⟨S8x16, .i32⟩
  | 75 => ⟨S4, .i32⟩
  | 76 => ⟨S4x1x1, .i32⟩
  | 77 => ⟨S_, .i32⟩
  | 78 => ⟨S4x1x1, .i32⟩
  | 79 => ⟨S4x1x1, .i32⟩
  | 80 => ⟨S16, .i32⟩
  | 81 => ⟨S1x16x1, .i32⟩
  | 82 => ⟨S4x16x1, .i32⟩
  | 83 => ⟨S4x16x1, .i32⟩
  | 84 => ⟨S4x16x1, .i32⟩
  | 85 => ⟨S32, .i32⟩
  | 86 => ⟨S1x1x32, .i32⟩
  | 87 => ⟨S4x1x32, .i32⟩
  | 88 => ⟨S4x1x32, .i32⟩
  | 89 => ⟨S4x1x32, .i32⟩
  | 90 => ⟨S_, .i32⟩
  | 91 => ⟨S4x16x1, .i32⟩
  | 92 => ⟨S4x16x1, .i32⟩
  | 93 => ⟨S_, .i32⟩
  | 94 => ⟨S_, .i32⟩
  | 95 => ⟨S_, .i32⟩
  | 96 => ⟨S4x16x1, .i32⟩
  | 97 => ⟨S4x16x1, .i32⟩
  | 98 => ⟨S_, .i32⟩
  | 99 => ⟨S4x16x1, .i32⟩
  | 100 => ⟨S4x16x1, .i32⟩
  | 101 => ⟨S4x16x32, .i32⟩
  | 102 => ⟨S4x16x32, .i32⟩
  | 103 => ⟨S4x16x32, .i1⟩
  | 104 => ⟨S_, .i32⟩
  | 105 => ⟨S4x16x1, .i32⟩
  | 106 => ⟨S4x16x1, .i32⟩
  | 107 => ⟨S4x16x32, .i32⟩
  | 108 => ⟨S4x16x32, .i32⟩
  | 109 => ⟨S4x16x32, .i1⟩
  | 110 => ⟨S4x16x32, .i1⟩
  | 111 => ⟨S4x16x32, .i32⟩
  | 112 => ⟨S4x16x32, .i32⟩
  | 113 => ⟨S4x16x32, .i32⟩
  | 114 => ⟨S_, .i32⟩
  | 115 => ⟨S4x16x32, .i32⟩
  | 116 => ⟨S4x16x32, .i32⟩
  | 117 => ⟨S_, .i32⟩
  | 118 => ⟨S4x16x32, .i32⟩
  | 119 => ⟨S4x16x32, .i32⟩
  | 120 => ⟨S_, .i32⟩
  | 121 => ⟨S_, .i32⟩
  | 122 => ⟨S_, .i32⟩
  | 123 => ⟨S4x16x32, .i32⟩
  | 124 => ⟨S4x16x32, .i32⟩
  | 125 => ⟨S_, .i32⟩
  | 126 => ⟨S4x16x32, .i32⟩
  | 127 => ⟨S4x16x32, .i32⟩
  | _ => ⟨S4x8192x1024, .bf16⟩

abbrev hbmTy0_1 (i : Nat) : BufTy := match i % 128 with
  | 0 => ⟨S4x16x32x1, .i32⟩
  | 1 => ⟨S31, .i32⟩
  | 2 => ⟨S1x1x1x31, .i32⟩
  | 3 => ⟨S4x16x32x31, .i32⟩
  | 4 => ⟨S4x16x32x31, .i32⟩
  | 5 => ⟨S4x16x32x31, .i1⟩
  | 6 => ⟨S4x16x32x31, .f32⟩
  | 7 => ⟨S8x16x1, .i32⟩
  | 8 => ⟨S15, .i32⟩
  | 9 => ⟨S1x1x15, .i32⟩
  | 10 => ⟨S8x16x15, .i32⟩
  | 11 => ⟨S8x16x15, .i32⟩
  | 12 => ⟨S8x16x15, .i1⟩
  | 13 => ⟨S8x16x15, .f32⟩
  | 14 => ⟨S16x15x1x1x1x31, .f32⟩
  | 15 => ⟨S1x1x4x16x32x31, .f32⟩
  | 16 => ⟨S16x15x4x16x32x31, .f32⟩
  | 17 => ⟨S16x15x4x16x32x31, .f32⟩
  | 18 => ⟨S16x15x4x16x32x31, .f32⟩
  | 19 => ⟨S_, .f32⟩
  | 20 => ⟨S16x15x4x16x32, .f32⟩
  | 21 => ⟨S4x16x16x32x15, .f32⟩
  | 22 => ⟨S4x16x1x16x1x32x15, .f32⟩
  | 23 => ⟨S1x1x8x1x16x1x15, .f32⟩
  | 24 => ⟨S4x16x8x16x16x32x15, .f32⟩
  | 25 => ⟨S4x16x8x16x16x32x15, .f32⟩
  | 26 => ⟨S4x16x8x16x16x32x15, .f32⟩
  | 27 => ⟨S_, .f32⟩
  | 28 => ⟨S4x16x8x16x16x32, .f32⟩
  | 29 => ⟨S1x3x1x8x1x16x1, .i1⟩
  | 30 => ⟨S4x1x1x1x16x1x32, .i1⟩
  | 31 => ⟨S4x3x1x8x16x16x32, .i1⟩
  | 32 => ⟨S4x3x1x8x16x16x32, .i1⟩
  | 33 => ⟨S4x3x1x8x16x16x32, .i1⟩
  | 34 => ⟨S4x1x16x8x16x16x32, .f32⟩
  | 35 => ⟨S4x3x16x8x16x16x32, .i1⟩
  | 36 => ⟨S4x3x16x8x16x16x32, .f32⟩
  | 37 => ⟨S4x3x16x8x16x16x32, .f32⟩
  | 38 => ⟨S4x3x16x8x16x16x32, .f32⟩
  | 39 => ⟨S4x3x8x256x512, .f32⟩
  | 40 => ⟨S4x128x4x16x1024, .bf16⟩
  | 41 => ⟨S4x32x4x4x32x1024, .bf16⟩
  | 42 => ⟨S4x16x8x4x32x1024, .bf16⟩
  | 43 => ⟨S4x32x4x4x32x1024, .bf16⟩
  | 44 => ⟨S4x32x4x4x32x1024, .bf16⟩
  | 45 => ⟨S4x16x8x4x32x1024, .bf16⟩
  | 46 => ⟨S4x32x4x4x32x1024, .bf16⟩
  | 47 => ⟨S4x128x4x16x1024, .bf16⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | .local _ .vmem, ⟨0, _⟩ => ⟨S1x8x1x16x1024, .bf16⟩
  | .local _ .vmem, ⟨1, _⟩ => ⟨S1x8x1x16x1024, .bf16⟩
  | .local _ .vmem, ⟨2, _⟩ => ⟨S1x1x4x1x32x1024, .bf16⟩
  | .local _ .vmem, ⟨3, _⟩ => ⟨S1x1x4x1x32x1024, .bf16⟩
  | .local _ .vmem, ⟨4, _⟩ => ⟨S1x1x8x1x32x1024, .bf16⟩
  | .local _ .vmem, ⟨5, _⟩ => ⟨S1x1x8x1x32x1024, .bf16⟩
  | .local _ .vmem, ⟨6, _⟩ => ⟨S1x1x4x1x32x1024, .bf16⟩
  | .local _ .vmem, ⟨7, _⟩ => ⟨S1x1x4x1x32x1024, .bf16⟩
  | .local _ .vmem, ⟨8, _⟩ => ⟨S1x1x4x1x32x1024, .bf16⟩
  | .local _ .vmem, ⟨9, _⟩ => ⟨S1x1x4x1x32x1024, .bf16⟩
  | .local _ .vmem, ⟨10, _⟩ => ⟨S1x1x8x1x32x1024, .bf16⟩
  | .local _ .vmem, ⟨11, _⟩ => ⟨S1x1x8x1x32x1024, .bf16⟩
  | .local _ .vmem, ⟨12, _⟩ => ⟨S1x1x4x1x32x1024, .bf16⟩
  | .local _ .vmem, ⟨13, _⟩ => ⟨S1x1x4x1x32x1024, .bf16⟩
  | .local _ .vmem, ⟨14, _⟩ => ⟨S1x1x8x256x512, .f32⟩
  | .local _ .vmem, ⟨15, _⟩ => ⟨S1x1x8x256x512, .f32⟩
  | .local _ .vmem, ⟨16, _⟩ => ⟨S1x8x1x16x1024, .bf16⟩
  | .local _ .vmem, ⟨17, _⟩ => ⟨S1x8x1x16x1024, .bf16⟩
  | .local _ .vmem, ⟨18, _⟩ => ⟨S512x1024, .bf16⟩
  | .local _ .vmem, ⟨19, _⟩ => ⟨S512x1024, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_c_12 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_c_16 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_c_19 : Ref sig .tc := ⟨.hbm, 117, rfl⟩
abbrev main_v82 : Ref sig .tc := ⟨.hbm, 118, rfl⟩
abbrev main_v83 : Ref sig .tc := ⟨.hbm, 119, rfl⟩
abbrev main_c_20 : Ref sig .tc := ⟨.hbm, 120, rfl⟩
abbrev main_c_21 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_22 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, arg0.toNat, c0_i32.toNat, c0_i32_0.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg1.toNat, v2.toNat, c0_i32_0.toNat, arg0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg2.toNat, c0_i32.toNat, arg0.toNat, c0_i32_0.toNat, c0_i32_1.toNat]

def cc0_transform_3 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  let c0_i32_3 : BitVec 32 := 0#32
  ![arg1.toNat, v2.toNat, c0_i32.toNat, arg0.toNat, c0_i32_1.toNat, c0_i32_2.toNat]

def cc0_transform_4 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg1.toNat, v2.toNat, c0_i32_0.toNat, arg0.toNat, c0_i32_1.toNat, c0_i32_2.toNat]

def cc0_transform_5 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg2.toNat, c0_i32.toNat, arg0.toNat, c0_i32_0.toNat, c0_i32_1.toNat]

def cc0_transform_6 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  let c0_i32_3 : BitVec 32 := 0#32
  ![arg1.toNat, v2.toNat, c0_i32.toNat, arg0.toNat, c0_i32_1.toNat, c0_i32_2.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c15_i32 : BitVec 32 := 15#32
  let v1 : BitVec 1 := Scalar.cmpi .eq arg2 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![arg0.toNat, v3.toNat, c0_i32_1.toNat, c0_i32_2.toNat, c0_i32_3.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, arg0.toNat, c0_i32.toNat, c0_i32_0.toNat]

abbrev stage0_0 : Fin 2 → Memref sig .tc .vmem S1x8x1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4x1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8x1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4x1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x1x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x8x1x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x4x1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x8x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x8x1x16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4x8192x1024 : Shape := ⟨3, ![4, 8192, 1024]⟩
abbrev S4x128x4x32x1024 : Shape := ⟨5, ![4, 128, 4, 32, 1024]⟩
abbrev S16x15x31 : Shape := ⟨3, ![16, 15, 31]⟩
abbrev S_ : Shape := ⟨0, ![]⟩
abbrev S4 : Shape := ⟨1, ![4]⟩
abbrev S4x16 : Shape := ⟨2, ![4, 16]⟩
abbrev S4x16x1 : Shape := ⟨3, ![4, 16, 1]⟩
abbrev S4x1x1 : Shape := ⟨3, ![4, 1, 1]⟩
abbrev S32 : Shape := ⟨1, ![32]⟩
abbrev S1x1x32 : Shape := ⟨3, ![1, 1, 32]⟩
abbrev S4x1x32 : Shape := ⟨3, ![4, 1, 32]⟩
abbrev S4x16x32 : Shape := ⟨3, ![4, 16, 32]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S4x128x4x16x16x64 : Shape := ⟨6, ![4, 128, 4, 16, 16, 64]⟩
abbrev S128x8x1 : Shape := ⟨3, ![128, 8, 1]⟩
abbrev S4x128x8x4x32x1024 : Shape := ⟨6, ![4, 128, 8, 4, 32, 1024]⟩
abbrev S4x128x4x8x32x1024 : Shape := ⟨6, ![4, 128, 4, 8, 32, 1024]⟩
abbrev S4x128x4x256x16x64 : Shape := ⟨6, ![4, 128, 4, 256, 16, 64]⟩
abbrev S4x128x16x4x16x256 : Shape := ⟨6, ![4, 128, 16, 4, 16, 256]⟩
abbrev S128x1x1x8x1 : Shape := ⟨5, ![128, 1, 1, 8, 1]⟩
abbrev S1x4x16x1x32 : Shape := ⟨5, ![1, 4, 16, 1, 32]⟩
abbrev S128x4x16x8x32 : Shape := ⟨5, ![128, 4, 16, 8, 32]⟩
abbrev S128x4x16x8x32x1 : Shape := ⟨6, ![128, 4, 16, 8, 32, 1]⟩
abbrev S128x4x16x8x32x2 : Shape := ⟨6, ![128, 4, 16, 8, 32, 2]⟩
abbrev S16x128x4x16x8x32 : Shape := ⟨6, ![16, 128, 4, 16, 8, 32]⟩
abbrev S128x16x4x16x8x32 : Shape := ⟨6, ![128, 16, 4, 16, 8, 32]⟩
abbrev S1x1x4x16x1x32 : Shape := ⟨6, ![1, 1, 4, 16, 1, 32]⟩
abbrev S1x128x16x4x16x256 : Shape := ⟨6, ![1, 128, 16, 4, 16, 256]⟩
abbrev S4x128x16x4x16 : Shape := ⟨5, ![4, 128, 16, 4, 16]⟩
abbrev S4x128x16x4x16x1 : Shape := ⟨6, ![4, 128, 16, 4, 16, 1]⟩
abbrev S4x128x4x16x64x16 : Shape := ⟨6, ![4, 128, 4, 16, 64, 16]⟩
abbrev S4x128x4x16x1024 : Shape := ⟨5, ![4, 128, 4, 16, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x128x4x32x1024, .bf16⟩
  | .hbm, ⟨2, _⟩ => ⟨S4x128x4x32x1024, .bf16⟩
  | .hbm, ⟨3, _⟩ => ⟨S16x15x31, .f32⟩
  | .hbm, ⟨4, _⟩ => ⟨S_, .f32⟩
  | .hbm, ⟨5, _⟩ => ⟨S4, .i32⟩
  | .hbm, ⟨6, _⟩ => ⟨S4x16, .i32⟩
  | .hbm, ⟨7, _⟩ => ⟨S4x16x1, .i32⟩
  | .hbm, ⟨8, _⟩ => ⟨S4x16x1, .i32⟩
  | .hbm, ⟨9, _⟩ => ⟨S4x16, .i32⟩
  | .hbm, ⟨10, _⟩ => ⟨S4x16x1, .i32⟩
  | .hbm, ⟨11, _⟩ => ⟨S4x1x1, .i32⟩
  | .hbm, ⟨12, _⟩ => ⟨S32, .i32⟩
  | .hbm, ⟨13, _⟩ => ⟨S1x1x32, .i32⟩
  | .hbm, ⟨14, _⟩ => ⟨S4x1x32, .i32⟩
  | .hbm, ⟨15, _⟩ => ⟨S4x1x32, .i32⟩
  | .hbm, ⟨16, _⟩ => ⟨S4x1x32, .i32⟩
  | .hbm, ⟨17, _⟩ => ⟨S4x16x32, .i32⟩
  | .hbm, ⟨18, _⟩ => ⟨S4x16x32, .i32⟩
  | .hbm, ⟨19, _⟩ => ⟨S4x16x32, .i1⟩
  | .hbm, ⟨20, _⟩ => ⟨S4x16x32, .i32⟩
  | .hbm, ⟨21, _⟩ => ⟨S4x16x32, .i32⟩
  | .hbm, ⟨22, _⟩ => ⟨S4x16x32, .i1⟩
  | .hbm, ⟨23, _⟩ => ⟨S4x16x32, .i1⟩
  | .hbm, ⟨24, _⟩ => ⟨S4x16x32, .i32⟩
  | .hbm, ⟨25, _⟩ => ⟨S4x16x32, .i32⟩
  | .hbm, ⟨26, _⟩ => ⟨S4x16x32, .i32⟩
  | .hbm, ⟨27, _⟩ => ⟨S_, .i32⟩
  | .hbm, ⟨28, _⟩ => ⟨S4x16x32, .i32⟩
  | .hbm, ⟨29, _⟩ => ⟨S4x16x32, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4x16x32, .i32⟩
  | .hbm, ⟨34, _⟩ => ⟨S4x16x32, .i32⟩
  | .hbm, ⟨35, _⟩ => ⟨S_, .i32⟩
  | .hbm, ⟨36, _⟩ => ⟨S4x16x32, .i32⟩
  | .hbm, ⟨37, _⟩ => ⟨S4x16x32, .i32⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S8, .i32⟩
  | .hbm, ⟨52, _⟩ => ⟨S1x8, .i32⟩
  | .hbm, ⟨53, _⟩ => ⟨S128x8, .i32⟩
  | .hbm, ⟨54, _⟩ => ⟨S128x8, .i32⟩
  | .hbm, ⟨55, _⟩ => ⟨S128x8, .i32⟩
  | .hbm, ⟨56, _⟩ => ⟨S128x8, .i32⟩
  | .hbm, ⟨57, _⟩ => ⟨S128x8, .i32⟩
  | .hbm, ⟨58, _⟩ => ⟨S_, .i32⟩
  | .hbm, ⟨59, _⟩ => ⟨S128x8, .i32⟩
  | .hbm, ⟨60, _⟩ => ⟨S128x8, .i32⟩
  | .hbm, ⟨61, _⟩ => ⟨S4x8192x1024, .f32⟩
  | .hbm, ⟨62, _⟩ => ⟨S4x128x4x16x16x64, .f32⟩
  | .hbm, ⟨63, _⟩ => ⟨S4x128x4x32x1024, .f32⟩
  | .hbm, ⟨64, _⟩ => ⟨S128x8x1, .i32⟩
  | .hbm, ⟨65, _⟩ => ⟨S4x128x8x4x32x1024, .f32⟩
  | .hbm, ⟨66, _⟩ => ⟨S4x128x4x8x32x1024, .f32⟩
  | .hbm, ⟨67, _⟩ => ⟨S4x128x4x256x16x64, .f32⟩
  | .hbm, ⟨68, _⟩ => ⟨S4x128x16x4x16x256, .f32⟩
  | .hbm, ⟨69, _⟩ => ⟨S128x1x1x8x1, .i32⟩
  | .hbm, ⟨70, _⟩ => ⟨S1x4x16x1x32, .i32⟩
  | .hbm, ⟨71, _⟩ => ⟨S128x4x16x8x32, .i32⟩
  | .hbm, ⟨72, _⟩ => ⟨S128x4x16x8x32, .i32⟩
  | .hbm, ⟨73, _⟩ => ⟨S128x4x16x8x32x1, .i32⟩
  | .hbm, ⟨74, _⟩ => ⟨S128x4x16x8x32x1, .i32⟩
  | .hbm, ⟨75, _⟩ => ⟨S128x4x16x8x32x2, .i32⟩
  | .hbm, ⟨76, _⟩ => ⟨S16x128x4x16x8x32, .f32⟩
  | .hbm, ⟨77, _⟩ => ⟨S128x16x4x16x8x32, .f32⟩
  | .hbm, ⟨78, _⟩ => ⟨S1x1x4x16x1x32, .i1⟩
  | .hbm, ⟨79, _⟩ => ⟨S128x16x4x16x8x32, .i1⟩
  | .hbm, ⟨80, _⟩ => ⟨S1x128x16x4x16x256, .i1⟩
  | .hbm, ⟨81, _⟩ => ⟨S1x128x16x4x16x256, .f32⟩
  | .hbm, ⟨82, _⟩ => ⟨S4x128x16x4x16x256, .f32⟩
  | .hbm, ⟨83, _⟩ => ⟨S4x128x16x4x16x256, .f32⟩
  | .hbm, ⟨84, _⟩ => ⟨S_, .f32⟩
  | .hbm, ⟨85, _⟩ => ⟨S_, .f32⟩
  | .hbm, ⟨86, _⟩ => ⟨S4x128x16x4x16x256, .i1⟩
  | .hbm, ⟨87, _⟩ => ⟨S4x128x16x4x16x256, .f32⟩
  | .hbm, ⟨88, _⟩ => ⟨S4x128x16x4x16x256, .f32⟩
  | .hbm, ⟨89, _⟩ => ⟨S_, .f32⟩
  | .hbm, ⟨90, _⟩ => ⟨S4x128x16x4x16, .f32⟩
  | .hbm, ⟨91, _⟩ => ⟨S_, .f32⟩
  | .hbm, ⟨92, _⟩ => ⟨S4x128x16x4x16, .f32⟩
  | .hbm, ⟨93, _⟩ => ⟨S4x128x16x4x16, .f32⟩
  | .hbm, ⟨94, _⟩ => ⟨S4x128x16x4x16x1, .f32⟩
  | .hbm, ⟨95, _⟩ => ⟨S4x128x16x4x16x256, .f32⟩
  | .hbm, ⟨96, _⟩ => ⟨S4x128x16x4x16x256, .f32⟩
  | .hbm, ⟨97, _⟩ => ⟨S4x128x16x4x16x256, .f32⟩
  | .hbm, ⟨98, _⟩ => ⟨S_, .f32⟩
  | .hbm, ⟨99, _⟩ => ⟨S4x128x16x4x16, .f32⟩
  | .hbm, ⟨100, _⟩ => ⟨S4x128x16x4x16x1, .f32⟩
  | .hbm, ⟨101, _⟩ => ⟨S4x128x16x4x16x256, .f32⟩
  | .hbm, ⟨102, _⟩ => ⟨S4x128x16x4x16x256, .f32⟩
  | .hbm, ⟨103, _⟩ => ⟨S4x128x4x32x1024, .f32⟩
  | .hbm, ⟨104, _⟩ => ⟨S128x8x1, .i32⟩
  | .hbm, ⟨105, _⟩ => ⟨S4x128x8x4x32x1024, .f32⟩
  | .hbm, ⟨106, _⟩ => ⟨S4x128x4x8x32x1024, .f32⟩
  | .hbm, ⟨107, _⟩ => ⟨S4x128x4x256x16x64, .f32⟩
  | .hbm, ⟨108, _⟩ => ⟨S4x128x4x16x64x16, .f32⟩
  | .hbm, ⟨109, _⟩ => ⟨S4x128x4x16x16x64, .f32⟩
  | .hbm, ⟨110, _⟩ => ⟨S4x128x4x16x1024, .f32⟩
  | .hbm, ⟨111, _⟩ => ⟨S4x128x4x16x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_c_5 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_c_8 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== Ffn.lean ====
abbrev S16x4096x1024 : Shape := ⟨3, ![16, 4096, 1024]⟩
abbrev S16x1024x2048 : Shape := ⟨3, ![16, 1024, 2048]⟩
abbrev S16x2048x1024 : Shape := ⟨3, ![16, 2048, 1024]⟩
abbrev S1x512x1024 : Shape := ⟨3, ![1, 512, 1024]⟩
abbrev S1x1024x2048 : Shape := ⟨3, ![1, 1024, 2048]⟩
abbrev S1x2048x1024 : Shape := ⟨3, ![1, 2048, 1024]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x1024x2048, .bf16⟩
  | .hbm, ⟨5, _⟩ => ⟨S16x1024x2048, .bf16⟩
  | .hbm, ⟨6, _⟩ => ⟨S16x2048x1024, .bf16⟩
  | .hbm, ⟨7, _⟩ => ⟨S16x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x512x1024, .bf16⟩
  | .local _ .vmem, ⟨9, _⟩ => ⟨S1x512x1024, .bf16⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRefIdeal.lean ====
abbrev S16x4096x1024 : Shape := ⟨3, ![16, 4096, 1024]⟩
abbrev S16x1024x2048 : Shape := ⟨3, ![16, 1024, 2048]⟩
abbrev S16x2048x1024 : Shape := ⟨3, ![16, 2048, 1024]⟩
abbrev S16x4096x2048 : Shape := ⟨3, ![16, 4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x4096x1024, .f32⟩
  | .hbm, ⟨5, _⟩ => ⟨S16x4096x2048, .f32⟩
  | .hbm, ⟨6, _⟩ => ⟨S16x4096x2048, .f32⟩
  | .hbm, ⟨7, _⟩ => ⟨S16x4096x2048, .f32⟩
  | .hbm, ⟨8, _⟩ => ⟨S_, .f32⟩
  | .hbm, ⟨9, _⟩ => ⟨S16x4096x2048, .f32⟩
  | .hbm, ⟨10, _⟩ => ⟨S16x4096x2048, .f32⟩
  | .hbm, ⟨11, _⟩ => ⟨S_, .f32⟩
  | .hbm, ⟨12, _⟩ => ⟨S16x4096x2048, .f32⟩
  | .hbm, ⟨13, _⟩ => ⟨S16x4096x2048, .f32⟩
  | .hbm, ⟨14, _⟩ => ⟨S16x4096x2048, .f32⟩
  | .hbm, ⟨15, _⟩ => ⟨S16x4096x2048, .f32⟩
  | .hbm, ⟨16, _⟩ => ⟨S16x4096x2048, .f32⟩
  | .hbm, ⟨17, _⟩ => ⟨S16x4096x1024, .f32⟩
  | .hbm, ⟨18, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Xattn.lean ====
abbrev S4x8192x1024 : Shape := ⟨3, ![4, 8192, 1024]⟩
abbrev S4x256x2048 : Shape := ⟨3, ![4, 256, 2048]⟩
abbrev S1024x1024 : Shape := ⟨2, ![1024, 1024]⟩
abbrev S1024 : Shape := ⟨1, ![1024]⟩
abbrev S1024x16 : Shape := ⟨2, ![1024, 16]⟩
abbrev S4x256x1024 : Shape := ⟨3, ![4, 256, 1024]⟩
abbrev S16x1024 : Shape := ⟨2, ![16, 1024]⟩
abbrev S1x1024 : Shape := ⟨2, ![1, 1024]⟩
abbrev S16x32768 : Shape := ⟨2, ![16, 32768]⟩
abbrev S1x512x1024 : Shape := ⟨3, ![1, 512, 1024]⟩
abbrev S1x256x1024 : Shape := ⟨3, ![1, 256, 1024]⟩
abbrev S16x512 : Shape := ⟨2, ![16, 512]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1x512 : Shape := ⟨2, ![1, 512]⟩

abbrev nBuf : Space → Nat
  | .hbm => 18
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x256x2048, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x16, .f32⟩
  | .hbm, ⟨7, _⟩ => ⟨S4x256x1024, .bf16⟩
  | .hbm, ⟨8, _⟩ => ⟨S4x256x1024, .bf16⟩
  | .hbm, ⟨9, _⟩ => ⟨S1024x1024, .bf16⟩
  | .hbm, ⟨10, _⟩ => ⟨S1024x1024, .bf16⟩
  | .hbm, ⟨11, _⟩ => ⟨S16x1024, .f32⟩
  | .hbm, ⟨12, _⟩ => ⟨S16x1024, .bf16⟩
  | .hbm, ⟨13, _⟩ => ⟨S1x1024, .f32⟩
  | .hbm, ⟨14, _⟩ => ⟨S1x1024, .f32⟩
  | .hbm, ⟨15, _⟩ => ⟨S4x8192x1024, .f32⟩
  | .hbm, ⟨16, _⟩ => ⟨S4x8192x1024, .bf16⟩
  | .hbm, ⟨17, _⟩ => ⟨S16x32768, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S16x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S16x512, .f32⟩
  | .local _ .vmem, ⟨16, _⟩ => ⟨S16x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== XattnRefIdeal.lean ====
abbrev S4x8192x1024 : Shape := ⟨3, ![4, 8192, 1024]⟩
abbrev S4x256x2048 : Shape := ⟨3, ![4, 256, 2048]⟩
abbrev S1024x1024 : Shape := ⟨2, ![1024, 1024]⟩
abbrev S1024 : Shape := ⟨1, ![1024]⟩
abbrev S1024x16 : Shape := ⟨2, ![1024, 16]⟩
abbrev S4x8192x4x256 : Shape := ⟨4, ![4, 8192, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x16 : Shape := ⟨2, ![32768, 16]⟩
abbrev S32768 : Shape := ⟨1, ![32768]⟩
abbrev S32768x1 : Shape := ⟨2, ![32768, 1]⟩
abbrev S16x32768 : Shape := ⟨2, ![16, 32768]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x2048, .bf16⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x16, .f32⟩
  | .hbm, ⟨7, _⟩ => ⟨S4x8192x1024, .f32⟩
  | .hbm, ⟨8, _⟩ => ⟨S4x8192x4x256, .f32⟩
  | .hbm, ⟨9, _⟩ => ⟨S4x256x2048, .f32⟩
  | .hbm, ⟨10, _⟩ => ⟨S4x256x2x4x256, .f32⟩
  | .hbm, ⟨11, _⟩ => ⟨S4x256x1x4x256, .f32⟩
  | .hbm, ⟨12, _⟩ => ⟨S4x256x4x256, .f32⟩
  | .hbm, ⟨13, _⟩ => ⟨S4x4x8192x256, .f32⟩
  | .hbm, ⟨14, _⟩ => ⟨S_, .f32⟩
  | .hbm, ⟨15, _⟩ => ⟨S4x4x8192x256, .f32⟩
  | .hbm, ⟨16, _⟩ => ⟨S4x4x8192x256, .f32⟩
  | .hbm, ⟨17, _⟩ => ⟨S_, .f32⟩
  | .hbm, ⟨18, _⟩ => ⟨S4x4x8192, .f32⟩
  | .hbm, ⟨19, _⟩ => ⟨S_, .f32⟩
  | .hbm, ⟨20, _⟩ => ⟨S4x4x8192, .f32⟩
  | .hbm, ⟨21, _⟩ => ⟨S4x4x8192, .f32⟩
  | .hbm, ⟨22, _⟩ => ⟨S4x4x8192x1, .f32⟩
  | .hbm, ⟨23, _⟩ => ⟨S4x4x8192x256, .f32⟩
  | .hbm, ⟨24, _⟩ => ⟨S4x4x8192x256, .f32⟩
  | .hbm, ⟨25, _⟩ => ⟨S4x4x8192x256, .f32⟩
  | .hbm, ⟨26, _⟩ => ⟨S_, .f32⟩
  | .hbm, ⟨27, _⟩ => ⟨S4x4x8192, .f32⟩
  | .hbm, ⟨28, _⟩ => ⟨S4x4x8192x1, .f32⟩
  | .hbm, ⟨29, _⟩ => ⟨S4x4x8192x256, .f32⟩
  | .hbm, ⟨30, _⟩ => ⟨S4x4x8192x256, .f32⟩
  | .hbm, ⟨31, _⟩ => ⟨S4x256x1x4x256, .f32⟩
  | .hbm, ⟨32, _⟩ => ⟨S4x256x4x256, .f32⟩
  | .hbm, ⟨33, _⟩ => ⟨S4x4x256x8192, .f32⟩
  | .hbm, ⟨34, _⟩ => ⟨S4x8192x4x256, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | .hbm, ⟨70, _⟩ => ⟨S32768x1024, .f32⟩
  | .hbm, ⟨71, _⟩ => ⟨S32768x16, .f32⟩
  | .hbm, ⟨72, _⟩ => ⟨S_, .f32⟩
  | .hbm, ⟨73, _⟩ => ⟨S32768, .f32⟩
  | .hbm, ⟨74, _⟩ => ⟨S_, .f32⟩
  | .hbm, ⟨75, _⟩ => ⟨S32768, .f32⟩
  | .hbm, ⟨76, _⟩ => ⟨S32768, .f32⟩
  | .hbm, ⟨77, _⟩ => ⟨S32768x1, .f32⟩
  | .hbm, ⟨78, _⟩ => ⟨S32768x16, .f32⟩
  | .hbm, ⟨79, _⟩ => ⟨S32768x16, .f32⟩
  | .hbm, ⟨80, _⟩ => ⟨S32768x16, .f32⟩
  | .hbm, ⟨81, _⟩ => ⟨S_, .f32⟩
  | .hbm, ⟨82, _⟩ => ⟨S32768, .f32⟩
  | .hbm, ⟨83, _⟩ => ⟨S32768x1, .f32⟩
  | .hbm, ⟨84, _⟩ => ⟨S32768x16, .f32⟩
  | .hbm, ⟨85, _⟩ => ⟨S32768x16, .f32⟩
  | .hbm, ⟨86, _⟩ => ⟨S4x8192x1024, .bf16⟩
  | .hbm, ⟨87, _⟩ => ⟨S16x32768, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Qkv.lean ====
abbrev S4x8192x1024 : Shape := ⟨3, ![4, 8192, 1024]⟩
abbrev S1024x3072 : Shape := ⟨2, ![1024, 3072]⟩
abbrev S4x128x4x32x1024 : Shape := ⟨5, ![4, 128, 4, 32, 1024]⟩
abbrev S1x512x1024 : Shape := ⟨3, ![1, 512, 1024]⟩
abbrev S1x8x4x32x1024 : Shape := ⟨5, ![1, 8, 4, 32, 1024]⟩
abbrev S512x1024 : Shape := ⟨2, ![512, 1024]⟩
abbrev S512x3072 : Shape := ⟨2, ![512, 3072]⟩
abbrev S32x1024 : Shape := ⟨2, ![32, 1024]⟩
abbrev S1x1x1x32x1024 : Shape := ⟨5, ![1, 1, 1, 32, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024x3072, .f32⟩
  | .hbm, ⟨2, _⟩ => ⟨S1024x3072, .bf16⟩
  | .hbm, ⟨3, _⟩ => ⟨S4x8192x1024, .bf16⟩
  | .hbm, ⟨4, _⟩ => ⟨S4x128x4x32x1024, .bf16⟩
  | .hbm, ⟨5, _⟩ => ⟨S4x128x4x32x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x8x4x32x1024, .bf16⟩
  | .local _ .vmem, ⟨6, _⟩ => ⟨S1x8x4x32x1024, .bf16⟩
  | .local _ .vmem, ⟨7, _⟩ => ⟨S1x8x4x32x1024, .bf16⟩
  | .local _ .vmem, ⟨8, _⟩ => ⟨S1x8x4x32x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x4x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvRefIdeal.lean ====
abbrev S4x8192x1024 : Shape := ⟨3, ![4, 8192, 1024]⟩
abbrev S1024x3072 : Shape := ⟨2, ![1024, 3072]⟩
abbrev S4x8192x3072 : Shape := ⟨3, ![4, 8192, 3072]⟩
abbrev S4x128x64x3x16x64 : Shape := ⟨6, ![4, 128, 64, 3, 16, 64]⟩
abbrev S4x128x64x1x16x64 : Shape := ⟨6, ![4, 128, 64, 1, 16, 64]⟩
abbrev S4x128x64x16x64 : Shape := ⟨5, ![4, 128, 64, 16, 64]⟩
abbrev S_ : Shape := ⟨0, ![]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S4x32x1 : Shape := ⟨3, ![4, 32, 1]⟩
abbrev S4x128x4x32x16x64 : Shape := ⟨6, ![4, 128, 4, 32, 16, 64]⟩
abbrev S4x128x4x32x1024 : Shape := ⟨5, ![4, 128, 4, 32, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x3072, .f32⟩
  | .hbm, ⟨2, _⟩ => ⟨S4x8192x3072, .f32⟩
  | .hbm, ⟨3, _⟩ => ⟨S4x128x64x3x16x64, .f32⟩
  | .hbm, ⟨4, _⟩ => ⟨S4x128x64x1x16x64, .f32⟩
  | .hbm, ⟨5, _⟩ => ⟨S4x128x64x16x64, .f32⟩
  | .hbm, ⟨6, _⟩ => ⟨S_, .f32⟩
  | .hbm, ⟨7, _⟩ => ⟨S4x128x64x16x64, .f32⟩
  | .hbm, ⟨8, _⟩ => ⟨S4x128x64x16x64, .f32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4x1, .i32⟩
  | .hbm, ⟨25, _⟩ => ⟨S32, .i32⟩
  | .hbm, ⟨26, _⟩ => ⟨S1x32, .i32⟩
  | .hbm, ⟨27, _⟩ => ⟨S4x32, .i32⟩
  | .hbm, ⟨28, _⟩ => ⟨S4x32, .i32⟩
  | .hbm, ⟨29, _⟩ => ⟨S4x32, .i32⟩
  | .hbm, ⟨30, _⟩ => ⟨S4x8192x1024, .f32⟩
  | .hbm, ⟨31, _⟩ => ⟨S4x8192x1024, .bf16⟩
  | .hbm, ⟨32, _⟩ => ⟨S4x128x64x1x16x64, .f32⟩
  | .hbm, ⟨33, _⟩ => ⟨S4x128x64x16x64, .f32⟩
  | .hbm, ⟨34, _⟩ => ⟨S_, .i32⟩
  | .hbm, ⟨35, _⟩ => ⟨S4x32, .i32⟩
  | .hbm, ⟨36, _⟩ => ⟨S4x32, .i1⟩
  | .hbm, ⟨37, _⟩ => ⟨S_, .i32⟩
  | .hbm, ⟨38, _⟩ => ⟨S4x32, .i32⟩
  | .hbm, ⟨39, _⟩ => ⟨S4x32, .i32⟩
  | .hbm, ⟨40, _⟩ => ⟨S4x32, .i32⟩
  | .hbm, ⟨41, _⟩ => ⟨S4x32x1, .i32⟩
  | .hbm, ⟨42, _⟩ => ⟨S4x128x4x32x16x64, .f32⟩
  | .hbm, ⟨43, _⟩ => ⟨S4x128x4x32x1024, .f32⟩
  | .hbm, ⟨44, _⟩ => ⟨S4x128x4x32x1024, .bf16⟩
  | .hbm, ⟨45, _⟩ => ⟨S4x128x64x1x16x64, .f32⟩
  | .hbm, ⟨46, _⟩ => ⟨S4x128x64x16x64, .f32⟩
  | .hbm, ⟨47, _⟩ => ⟨S_, .i32⟩
  | .hbm, ⟨48, _⟩ => ⟨S4x32, .i32⟩
  | .hbm, ⟨49, _⟩ => ⟨S4x32, .i1⟩
  | .hbm, ⟨50, _⟩ => ⟨S_, .i32⟩
  | .hbm, ⟨51, _⟩ => ⟨S4x32, .i32⟩
  | .hbm, ⟨52, _⟩ => ⟨S4x32, .i32⟩
  | .hbm, ⟨53, _⟩ => ⟨S4x32, .i32⟩
  | .hbm, ⟨54, _⟩ => ⟨S4x32x1, .i32⟩
  | .hbm, ⟨55, _⟩ => ⟨S4x128x4x32x16x64, .f32⟩
  | .hbm, ⟨56, _⟩ => ⟨S4x128x4x32x1024, .f32⟩
  | .hbm, ⟨57, _⟩ => ⟨S4x128x4x32x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== OutLn.lean ====
abbrev S4x128x4x16x1024 : Shape := ⟨5, ![4, 128, 4, 16, 1024]⟩
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x128x4x16x1024, .bf16⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S32768x1024, .bf16⟩
  | .hbm, ⟨6, _⟩ => ⟨S32768x1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x128x4x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutLnRefIdeal.lean ====
abbrev S4x128x4x16x1024 : Shape := ⟨5, ![4, 128, 4, 16, 1024]⟩
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x128x4x16x1024, .bf16⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x8192x1024, .f32⟩
  | .hbm, ⟨7, _⟩ => ⟨S4x8192x1024, .f32⟩
  | .hbm, ⟨8, _⟩ => ⟨S4x128x4x16x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | .hbm, ⟨41, _⟩ => ⟨S32768x1024, .f32⟩
  | _, _ => ⟨S4x128x4x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MemKv.lean ====
abbrev S4x256x1024 : Shape := ⟨3, ![4, 256, 1024]⟩
abbrev S1024x2048 : Shape := ⟨2, ![1024, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1024x2048, .f32⟩
  | .hbm, ⟨2, _⟩ => ⟨S1024x1024, .f32⟩
  | .hbm, ⟨3, _⟩ => ⟨S1024x2048, .bf16⟩
  | .hbm, ⟨4, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .bf16⟩
  | .local _ .vmem, ⟨4, _⟩ => ⟨S512x2048, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKvRefIdeal.lean ====
abbrev S4x256x1024 : Shape := ⟨3, ![4, 256, 1024]⟩
abbrev S1024x2048 : Shape := ⟨2, ![1024, 2048]⟩
abbrev S4x256x2048 : Shape := ⟨3, ![4, 256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x2048, .f32⟩
  | .hbm, ⟨2, _⟩ => ⟨S4x256x2048, .f32⟩
  | .hbm, ⟨3, _⟩ => ⟨S1024x2048, .f32⟩
  | .hbm, ⟨4, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Softmax.lean ====
/- The softmax of a finite family of scores, and the sum it weights. -/
module

public import Idealize.ShloMosaic.Lib.Pointwise

@[expose] public section

noncomputable section

namespace Cert.Softmax

open Idealize.ShloMosaic

/-- The largest score, from the format's least value. -/
def top {n : Nat} (s : Fin n → EReal) : EReal := Finset.univ.fold max (Ideal.ofBits .f32 0xFF800000#32) s

/-- The weight of a score. -/
def weight {n : Nat} (s : Fin n → EReal) (j : Fin n) : EReal :=
  Ideal.div (Ideal.exp (s j - top s)) (∑ i : Fin n, Ideal.exp (s i - top s))

/-- The weighted sum of values. -/
def attend {n : Nat} (s v : Fin n → EReal) : EReal := ∑ j : Fin n, weight s j * v j

/-- The least value changes nothing. -/
theorem max_top {n : Nat} (s : Fin n → EReal) : max (Ideal.ofBits .f32 0xFF800000#32) (top s) = top s :=
  max_eq_right ((Finset.le_fold_max _).2 (Or.inl le_rfl))

end Cert.Softmax

end
-- ==== Proof.NaMath.lean ====
/- Attention over a window of keys: the keys outside have the score minus infinity and do not count. -/
module

public import Idealize.ShloMosaic.Lib.Pointwise
public import proofs.«01_k».proof.Proof.Softmax

@[expose] public section

noncomputable section

namespace Cert.NaMath

open Idealize.ShloMosaic
open Softmax (top weight attend)

/-- The weighted sum of values, divided at the end. -/
def late {n : Nat} (s v : Fin n → EReal) : EReal :=
  Ideal.div (∑ j : Fin n, Ideal.exp (s j - top s) * v j) (∑ j : Fin n, Ideal.exp (s j - top s))

/-- The format's least value is minus infinity. -/
theorem least : Ideal.ofBits .f32 0xFF800000#32 = ⊥ := by simp [Ideal.ofBits, Ideal.ieee]

/-- A sum of products by a number that is neither negative nor infinite. -/
theorem sum_mul_right {n : Nat} (f : Fin n → EReal) (c : EReal) (h0 : 0 ≤ c) (ht : c ≠ ⊤) :
    (∑ j : Fin n, f j) * c = ∑ j : Fin n, f j * c := by
  induction n with
  | zero => simp
  | succ n ih =>
    rw [Fin.sum_univ_succ, Fin.sum_univ_succ, EReal.right_distrib_of_nonneg_of_ne_top h0 ht, ih]

/-- A sum of reals is real. -/
theorem sum_coe {n : Nat} (f : Fin n → ℝ) : (∑ j : Fin n, (f j : EReal)) = ((∑ j : Fin n, f j : ℝ) : EReal) := by
  induction n with
  | zero => simp
  | succ n ih => rw [Fin.sum_univ_succ, Fin.sum_univ_succ, ih, EReal.coe_add]

/-- The largest score of a family without plus infinity that has a number is a number. -/
theorem top_real {n : Nat} (t : Fin n → EReal) (hfin : ∀ j, t j ≠ ⊤) (hne : ∃ j, t j ≠ ⊥) : ∃ r : ℝ, top t = r := by
  obtain ⟨j, hj⟩ := hne
  have hlt : top t < ⊤ := by
    unfold top
    rw [least]
    exact (Finset.fold_max_lt _).2 ⟨bot_lt_top, fun i _ => lt_top_iff_ne_top.2 (hfin i)⟩
  have hle : t j ≤ top t := (Finset.le_fold_max _).2 (Or.inr ⟨j, Finset.mem_univ j, le_rfl⟩)
  have hgt : top t ≠ ⊥ := fun h => hj (le_bot_iff.1 (h ▸ hle))
  exact ⟨(top t).toReal, (EReal.coe_toReal hlt.ne hgt).symm⟩

/-- An exponential of a score without plus infinity, less a number, is a number that is not negative. -/
theorem exp_real (x : EReal) (r : ℝ) (hx : x ≠ ⊤) : ∃ y : ℝ, 0 ≤ y ∧ Ideal.exp (x - r) = y := by
  induction x with
  | bot => exact ⟨0, le_rfl, by simp⟩
  | top => exact absurd rfl hx
  | coe a => exact ⟨Real.exp (a - r), (Real.exp_pos _).le, by rw [← EReal.coe_sub, Ideal.exp_coe]⟩

/-- Dividing at the end or weight by weight is the same. -/
theorem late_eq_attend {n : Nat} (t w : Fin n → EReal) (hfin : ∀ j, t j ≠ ⊤) (hne : ∃ j, t j ≠ ⊥) :
    late t w = attend t w := by
  obtain ⟨r, hr⟩ := top_real t hfin hne
  choose y hy0 hy using fun j => exp_real (t j) r (hfin j)
  have hsum : (∑ j : Fin n, Ideal.exp (t j - top t)) = ((∑ j : Fin n, y j : ℝ) : EReal) := by
    rw [← sum_coe, hr]; exact Finset.sum_congr rfl fun j _ => hy j
  have hpos : 0 < ∑ j : Fin n, y j := by
    obtain ⟨j, hj⟩ := hne
    refine lt_of_lt_of_le ?_ (Finset.single_le_sum (fun i _ => hy0 i) (Finset.mem_univ j))
    have e := hy j
    lift t j to ℝ using ⟨hfin j, hj⟩ with a
    rw [← EReal.coe_sub, Ideal.exp_coe] at e
    rw [← EReal.coe_eq_coe_iff.1 e]
    exact Real.exp_pos _
  unfold late attend weight
  rw [hsum, Ideal.div_coe hpos.ne', sum_mul_right _ _ (EReal.coe_nonneg.2 (by positivity)) (EReal.coe_ne_top _)]
  refine Finset.sum_congr rfl fun j _ => ?_
  rw [Ideal.div_coe hpos.ne', mul_right_comm]

/-- Keys of the score minus infinity before and after a window do not count. -/
theorem late_window (s v : Fin 512 → EReal) (t w : Fin 256 → EReal) (o : Nat) (ho : o ≤ 8)
    (hs : ∀ j : Fin 256, s ⟨j.val + 32 * o, by omega⟩ = t j) (hv : ∀ j : Fin 256, v ⟨j.val + 32 * o, by omega⟩ = w j)
    (hout : ∀ j : Fin 512, (j.val < 32 * o ∨ 256 + 32 * o ≤ j.val) → s j = ⊥)
    (hfin : ∀ j, t j ≠ ⊤) (hne : ∃ j, t j ≠ ⊥) : late s v = attend t w := by
  have split : ∀ j : Fin 512, s j = ⊥ ∨ ∃ i : Fin 256, (⟨i.val + 32 * o, by omega⟩ : Fin 512) = j := by
    intro j
    by_cases c : j.val < 32 * o ∨ 256 + 32 * o ≤ j.val
    · exact Or.inl (hout j c)
    · exact Or.inr ⟨⟨j.val - 32 * o, by omega⟩, Fin.ext (by show j.val - 32 * o + 32 * o = j.val; omega)⟩
  have htop : top s = top t := by
    apply le_antisymm
    · refine Finset.fold_max_le _ |>.2 ⟨(Finset.le_fold_max _).2 (Or.inl le_rfl), fun j _ => ?_⟩
      rcases split j with h | ⟨i, rfl⟩
      · rw [h]; exact bot_le
      · rw [hs]; exact (Finset.le_fold_max _).2 (Or.inr ⟨i, Finset.mem_univ i, le_rfl⟩)
    · refine Finset.fold_max_le _ |>.2 ⟨(Finset.le_fold_max _).2 (Or.inl le_rfl), fun i _ => ?_⟩
      rw [← hs]; exact (Finset.le_fold_max _).2 (Or.inr ⟨_, Finset.mem_univ _, le_rfl⟩)
  obtain ⟨r, hr⟩ := top_real t hfin hne
  have sums : ∀ f : Fin 512 → EReal, (∀ j, s j = ⊥ → f j = 0) →
      ∑ j : Fin 512, f j = ∑ i : Fin 256, f ⟨i.val + 32 * o, by omega⟩ := by
    intro f hf
    let e : Fin 256 ↪ Fin 512 := ⟨fun i => ⟨i.val + 32 * o, by omega⟩, fun a b h => Fin.ext (by have := congrArg Fin.val h; simp only at this; omega)⟩
    rw [show (∑ i : Fin 256, f ⟨i.val + 32 * o, by omega⟩) = ∑ j ∈ Finset.univ.map e, f j from (Finset.sum_map _ e f).symm]
    refine (Finset.sum_subset (Finset.subset_univ _) fun j _ hj => ?_).symm
    rcases split j with h | ⟨i, rfl⟩
    · exact hf j h
    · exact absurd (Finset.mem_map.2 ⟨i, Finset.mem_univ i, rfl⟩) hj
  have hz : ∀ j, s j = ⊥ → Ideal.exp (s j - top s) = 0 := by
    intro j h
    rw [h, htop, hr, EReal.bot_sub, Ideal.exp_bot]
  have key : late s v = late t w := by
    unfold late
    rw [sums _ (fun j h => hz j h), sums _ (fun j h => by rw [hz j h, zero_mul])]
    simp only [hs, hv, htop]
  rw [key, late_eq_attend t w hfin hne]

end Cert.NaMath

end
-- ==== Proof.NaPoint.lean ====
/- The neighbourhood attention of one row block, at an index: what one pair of heads stores, and the stacked key rows it reads. -/
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.NaMath

@[expose] public section

set_option maxRecDepth 65536

noncomputable section

namespace Cert.NaPoint

open Idealize.ShloMosaic Idealize.ShloMosaic.TcCoe Idealize.SL.Sem
open Idealize.ShloMosaic.Pipeline (Dat)
open Cert.KernelIdeal Cert.KernelIdeal.Gen Cert.Softmax Cert.NaMath

/-- The queries of two heads, each in its own rows with the other head's lanes blanked. -/
def split (q : FVec Ideal S128x128 .bf16) : FVec Ideal S256x128 .bf16 :=
  concatenate S256x128 0 [⟨S128x128, select k0_pay10 q (k0_pay11 (F := Ideal))⟩, ⟨S128x128, select k0_pay10 (k0_pay11 (F := Ideal)) q⟩]
    concatenates_S128x128_S128x128_S256x128_d0

/-- The scores of both heads. -/
def scores (q : FVec Ideal S128x128 .bf16) (k : FVec Ideal S512x128 .bf16) (b : FVec Ideal S1x1x1x256x512 .f32) : FVec Ideal S256x512 .f32 :=
  addf (matmul dot_S256x128_S512x128_S256x512_1_1_0_0_n_n none (split q) k (constant S256x512 .f32 0x00000000#32))
    (shapeCast S256x512 b shapeCasts_S1x1x1x256x512_S256x512)

/-- The largest score of every row. -/
def tops (s : FVec Ideal S256x512 .f32) : FVec Ideal S256 .f32 :=
  multiReduction .maximumf [1] S256 s 0xFF800000#32 reduces_S256x512_S256 (.inl rfl) rfl

/-- The exponentials of a score table, each row less its largest score. -/
def exps (s : FVec Ideal S256x512 .f32) (m : FVec Ideal S256 .f32) : FVec Ideal S256x512 .f32 :=
  exp (subf s (broadcastTo S256x512 (shapeCast S256x1 m shapeCasts_S256_S256x1) broadcasts_S256x1_S256x512))

/-- The row sums. -/
def sums (e : FVec Ideal S256x512 .f32) : FVec Ideal S256 .f32 :=
  multiReduction .add [1] S256 e 0x00000000#32 reduces_S256x512_S256 (.inl rfl) rfl

/-- The values weighted by exponentials, divided by the row sums. -/
def mix (e : FVec Ideal S256x512 .f32) (n : FVec Ideal S256 .f32) (v : FVec Ideal S512x128 .bf16) : FVec Ideal S256x128 .f32 :=
  divf (matmul dot_S256x512_S512x128_S256x128_1_0_0_1_n_n none (truncf .bf16 e bitsLt_bf16_f32) v (constant S256x128 .f32 0x00000000#32))
    (broadcastTo S256x128 (shapeCast S256x1 n shapeCasts_S256_S256x1) broadcasts_S256x1_S256x128)

/-- Each head's lanes taken from its own rows, in the block's shape. -/
def join (o : FVec Ideal S256x128 .f32) : FVec Ideal S1x8x1x16x128 .bf16 :=
  shapeCast S1x8x1x16x128 (shapeCast S8x16x128 (truncf .bf16 (select k0_pay10 (extractStridedSlice S128x128 ![0, 0] o slices_S256x128_o0_0_S128x128)
    (extractStridedSlice S128x128 ![128, 0] o slices_S256x128_o128_0_S128x128)) bitsLt_bf16_f32) shapeCasts_S128x128_S8x16x128) shapeCasts_S8x16x128_S1x8x1x16x128

/-- What one pair of heads stores. -/
def pair (q : FVec Ideal S128x128 .bf16) (k : FVec Ideal S512x128 .bf16) (b : FVec Ideal S1x1x1x256x512 .f32) (v : FVec Ideal S512x128 .bf16) :
    FVec Ideal S1x8x1x16x128 .bf16 :=
  join (mix (exps (scores q k b) (tops (scores q k b))) (sums (exps (scores q k b) (tops (scores q k b)))) v)

/-- The lanes of the first head. -/
theorem lane {α : Type} (x : Fin 128) (a b : α) :
    Scalar.select (IntOp.cmpi CmpIPredicate.slt (BitVec.ofNat 32 x.val) 64#32) a b = if x.val < 64 then a else b := by
  have e : ∀ x : Fin 128, (IntOp.cmpi CmpIPredicate.slt (BitVec.ofNat 32 x.val) 64#32 = 1#1) ↔ x.val < 64 := by decide +kernel
  unfold Scalar.select
  exact if_congr (e x) rfl rfl

theorem split_top (q : FVec Ideal S128x128 .bf16) (r x : Fin 128) :
    split q (ix2 ⟨r.val, by omega⟩ x) = if x.val < 64 then q (ix2 r x) else (0 : EReal) := by
  pointwise [split, k0_pay10, k0_pay11]
  exact lane x _ _
theorem split_low (q : FVec Ideal S128x128 .bf16) (r x : Fin 128) :
    split q (ix2 ⟨128 + r.val, by omega⟩ x) = if x.val < 64 then (0 : EReal) else q (ix2 r x) := by
  pointwise [split, k0_pay10, k0_pay11]
  exact lane x _ _

theorem scores_at (q : FVec Ideal S128x128 .bf16) (k : FVec Ideal S512x128 .bf16) (b : FVec Ideal S1x1x1x256x512 .f32) (r : Fin 256) (j : Fin 512) :
    scores q k b (ix2 r j) = (∑ x : Fin 128, split q (ix2 r x) * k (ix2 j x)) + b (ix5 0 0 0 r j) := by
  pointwise [scores]

theorem tops_at (s : FVec Ideal S256x512 .f32) (r : Fin 256) : tops s (ix1 r) = top (fun j => s (ix2 r j)) := by
  pointwise [tops, top]

theorem exps_at (s : FVec Ideal S256x512 .f32) (m : FVec Ideal S256 .f32) (r : Fin 256) (j : Fin 512) :
    exps s m (ix2 r j) = Ideal.exp (s (ix2 r j) - m (ix1 r)) := by
  pointwise [exps]

theorem sums_at (e : FVec Ideal S256x512 .f32) (r : Fin 256) : sums e (ix1 r) = ∑ j : Fin 512, e (ix2 r j) := by
  pointwise [sums]

theorem mix_at (e : FVec Ideal S256x512 .f32) (n : FVec Ideal S256 .f32) (v : FVec Ideal S512x128 .bf16) (r : Fin 256) (x : Fin 128) :
    mix e n v (ix2 r x) = Ideal.div (∑ j : Fin 512, e (ix2 r j) * v (ix2 j x)) (n (ix1 r)) := by
  pointwise [mix]

theorem join_at (o : FVec Ideal S256x128 .f32) (rl : Fin 8) (qc : Fin 16) (x : Fin 128) :
    join o (ix5 0 rl 0 qc x) = if x.val < 64 then o (ix2 ⟨rl.val * 16 + qc.val, by omega⟩ x) else o (ix2 ⟨128 + (rl.val * 16 + qc.val), by omega⟩ x) := by
  pointwise [join, k0_pay10]
  exact lane x _ _

/-- A row of the two heads' table: its scores are the row's own dot products with a bias, its result the late-normalised mix. -/
theorem row_at (q : FVec Ideal S128x128 .bf16) (k : FVec Ideal S512x128 .bf16) (b : FVec Ideal S1x1x1x256x512 .f32) (v : FVec Ideal S512x128 .bf16)
    (r : Fin 256) (x : Fin 128) :
    mix (exps (scores q k b) (tops (scores q k b))) (sums (exps (scores q k b) (tops (scores q k b)))) v (ix2 r x)
      = late (fun j => scores q k b (ix2 r j)) (fun j => v (ix2 j x)) := by
  rw [mix_at, sums_at]
  simp only [exps_at, tops_at]
  rfl

/-- Each of the eight stored payloads is a pair of heads. -/
theorem pair0 (q : FVec Ideal S1x8x1x16x1024 .bf16) (k v : FVec Ideal S512x128 .bf16) (b : FVec Ideal S1x1x1x256x512 .f32) :
    k0_pay13 k0_pay10 (k0_pay12 q k) b v = pair (extractStridedSlice S128x128 ![0, 0] (k0_pay9 q) slices_S128x1024_o0_0_S128x128) k b v := rfl
theorem pair1 (q : FVec Ideal S1x8x1x16x1024 .bf16) (k v : FVec Ideal S512x128 .bf16) (b : FVec Ideal S1x1x1x256x512 .f32) :
    k0_pay16 k0_pay10 (k0_pay14 (k0_pay9 q) k0_pay10 k0_pay11 k b) (k0_pay15 (k0_pay9 q) k0_pay10 k0_pay11 k b) v
      = pair (extractStridedSlice S128x128 ![0, 128] (k0_pay9 q) slices_S128x1024_o0_128_S128x128) k b v := rfl
theorem pair2 (q : FVec Ideal S1x8x1x16x1024 .bf16) (k v : FVec Ideal S512x128 .bf16) (b : FVec Ideal S1x1x1x256x512 .f32) :
    k0_pay18 (k0_pay17 (k0_pay9 q) k0_pay10 k0_pay11 k b v)
      = pair (extractStridedSlice S128x128 ![0, 256] (k0_pay9 q) slices_S128x1024_o0_256_S128x128) k b v := rfl
theorem pair3 (q : FVec Ideal S1x8x1x16x1024 .bf16) (k v : FVec Ideal S512x128 .bf16) (b : FVec Ideal S1x1x1x256x512 .f32) :
    k0_pay19 (k0_pay9 q) k0_pay10 k0_pay11 k b v
      = pair (extractStridedSlice S128x128 ![0, 384] (k0_pay9 q) slices_S128x1024_o0_384_S128x128) k b v := rfl
theorem pair4 (q : FVec Ideal S1x8x1x16x1024 .bf16) (k v : FVec Ideal S512x128 .bf16) (b : FVec Ideal S1x1x1x256x512 .f32) :
    k0_pay21 k0_pay10 k0_pay11 (k0_pay20 (k0_pay9 q)) k b v
      = pair (extractStridedSlice S128x128 ![0, 512] (k0_pay9 q) slices_S128x1024_o0_512_S128x128) k b v := rfl
theorem pair5 (q : FVec Ideal S1x8x1x16x1024 .bf16) (k v : FVec Ideal S512x128 .bf16) (b : FVec Ideal S1x1x1x256x512 .f32) :
    k0_pay23 k0_pay10 (k0_pay22 (k0_pay9 q) k0_pay10 k0_pay11 k) b v
      = pair (extractStridedSlice S128x128 ![0, 640] (k0_pay9 q) slices_S128x1024_o0_640_S128x128) k b v := rfl
theorem pair6 (q : FVec Ideal S1x8x1x16x1024 .bf16) (k v : FVec Ideal S512x128 .bf16) (b : FVec Ideal S1x1x1x256x512 .f32) :
    k0_pay26 k0_pay10 (k0_pay24 (k0_pay9 q) k0_pay10 k0_pay11 k b) (k0_pay25 (k0_pay9 q) k0_pay10 k0_pay11 k b) v
      = pair (extractStridedSlice S128x128 ![0, 768] (k0_pay9 q) slices_S128x1024_o0_768_S128x128) k b v := rfl
theorem pair7 (q : FVec Ideal S1x8x1x16x1024 .bf16) (k v : FVec Ideal S512x128 .bf16) (b : FVec Ideal S1x1x1x256x512 .f32) :
    k0_pay1 (k0_pay27 (k0_pay9 q) k0_pay10 k0_pay11 k b v)
      = pair (extractStridedSlice S128x128 ![0, 896] (k0_pay9 q) slices_S128x1024_o0_896_S128x128) k b v := rfl

/-- Three stacked blocks of key rows. -/
def stack (p0 : FVec Ideal S128x1024 .bf16) (p1 : FVec Ideal S256x1024 .bf16) (p2 : FVec Ideal S128x1024 .bf16) (j : Fin 512) (l : Fin 1024) : EReal :=
  if h0 : j.val < 128 then p0 (ix2 ⟨j.val, h0⟩ l)
  else if h1 : j.val < 384 then p1 (ix2 ⟨j.val - 128, by omega⟩ l)
  else p2 (ix2 ⟨j.val - 384, by omega⟩ l)

theorem stack_low (p0 : FVec Ideal S128x1024 .bf16) (p1 : FVec Ideal S256x1024 .bf16) (p2 : FVec Ideal S128x1024 .bf16) (j : Fin 512) (l : Fin 1024)
    (r : Fin 128) (hr : j.val = r.val) : stack p0 p1 p2 j l = p0 (ix2 r l) := by
  have g := r.isLt
  unfold stack
  rw [dif_pos (by omega)]
  exact congrArg (fun r => p0 (ix2 r l)) (Fin.ext hr)
theorem stack_mid (p0 : FVec Ideal S128x1024 .bf16) (p1 : FVec Ideal S256x1024 .bf16) (p2 : FVec Ideal S128x1024 .bf16) (j : Fin 512) (l : Fin 1024)
    (r : Fin 256) (hr : j.val = 128 + r.val) : stack p0 p1 p2 j l = p1 (ix2 r l) := by
  have g := r.isLt
  unfold stack
  rw [dif_neg (by omega), dif_pos (by omega)]
  exact congrArg (fun r => p1 (ix2 r l)) (Fin.ext (show j.val - 128 = r.val by omega))
theorem stack_high (p0 : FVec Ideal S128x1024 .bf16) (p1 : FVec Ideal S256x1024 .bf16) (p2 : FVec Ideal S128x1024 .bf16) (j : Fin 512) (l : Fin 1024)
    (r : Fin 128) (hr : j.val = 384 + r.val) : stack p0 p1 p2 j l = p2 (ix2 r l) := by
  unfold stack
  rw [dif_neg (by omega), dif_neg (by omega)]
  exact congrArg (fun r => p2 (ix2 r l)) (Fin.ext (show j.val - 384 = r.val by omega))

theorem stack_canon (p0 : FVec Ideal S128x1024 .bf16) (p1 : FVec Ideal S256x1024 .bf16) (p2 : FVec Ideal S128x1024 .bf16) (y : S512x1024.Idx) :
    View.canon (Val := Elt Ideal) (s := S512x1024) (e := .bf16)
      [⟨Rect.unit ![384, 0] ![128, 1024] inb_S512x1024_S128x1024_384_0, p2⟩,
        ⟨Rect.unit ![128, 0] ![256, 1024] inb_S512x1024_S256x1024_128_0, p1⟩,
        ⟨Rect.unit ![0, 0] ![128, 1024] inb_S512x1024_S128x1024_0_0, p0⟩] y = stack p0 p1 p2 (y 0) (y 1) := by
  have g0 : (y 0 : ℕ) < 512 := (y 0).isLt
  have g1 : (y 1 : ℕ) < 1024 := (y 1).isLt
  refine View.canon_apply_of_pieces (Val := Elt Ideal) (S := S512x1024) (e := .bf16) (fun y => stack p0 p1 p2 (y 0) (y 1)) _ ?_ y ?_
  · simp only [List.mem_cons, List.not_mem_nil, or_false, forall_eq_or_imp, forall_eq]
    refine ⟨fun x => ?_, fun x => ?_, fun x => ?_⟩
    · exact Eq.trans (by blk_ext) (stack_high p0 p1 p2 _ _ (x 0) (by blk_simp)).symm
    · exact Eq.trans (by blk_ext) (stack_mid p0 p1 p2 _ _ (x 0) (by blk_simp)).symm
    · exact Eq.trans (by blk_ext) (stack_low p0 p1 p2 _ _ (x 0) (by blk_simp)).symm
  · by_cases e0 : (y 0 : ℕ) < 128
    · refine ⟨_, .tail _ (.tail _ (.head _)), ?_⟩
      mem_blk
      refine Fin.forall_fin_two.2 ⟨⟨Nat.zero_le _, ?_⟩, Nat.zero_le _, ?_⟩ <;> simp only [Matrix.cons_val_zero, Matrix.cons_val_one] <;> omega
    · by_cases e1 : (y 0 : ℕ) < 384
      · refine ⟨_, .tail _ (.head _), ?_⟩
        mem_blk
        refine Fin.forall_fin_two.2 ⟨⟨?_, ?_⟩, Nat.zero_le _, ?_⟩ <;> simp only [Matrix.cons_val_zero, Matrix.cons_val_one] <;> omega
      · refine ⟨_, .head _, ?_⟩
        mem_blk
        refine Fin.forall_fin_two.2 ⟨⟨?_, ?_⟩, Nat.zero_le _, ?_⟩ <;> simp only [Matrix.cons_val_zero, Matrix.cons_val_one] <;> omega

theorem stack_idx (p0 : FVec Ideal S128x1024 .bf16) (p1 : FVec Ideal S256x1024 .bf16) (p2 : FVec Ideal S128x1024 .bf16) (y : S512x1024.Idx) (j : Fin 512)
    (l : Fin 1024) (h0 : (y 0 : ℕ) = j.val) (h1 : (y 1 : ℕ) = l.val) : stack p0 p1 p2 (y 0) (y 1) = stack p0 p1 p2 j l := by
  rw [show y 0 = j from Fin.ext h0, show y 1 = l from Fin.ext h1]

/-- The stacked rows. -/
theorem low_at (x : FVec Ideal S1x1x4x1x32x1024 .bf16) (r : Fin 128) (l : Fin 1024) :
    k0_pay2 x (ix2 r l) = x (ix6 0 0 ⟨r.val / 32, by omega⟩ 0 ⟨r.val % 32, by omega⟩ l) := by
  pointwise [k0_pay2]
theorem mid_at (x : FVec Ideal S1x1x8x1x32x1024 .bf16) (r : Fin 256) (l : Fin 1024) :
    k0_pay3 x (ix2 r l) = x (ix6 0 0 ⟨r.val / 32, by omega⟩ 0 ⟨r.val % 32, by omega⟩ l) := by
  pointwise [k0_pay3]
theorem flat_at (x : FVec Ideal S1x8x1x16x1024 .bf16) (r : Fin 8) (qc : Fin 16) (l : Fin 1024) :
    k0_pay9 x (ix2 ⟨r.val * 16 + qc.val, by omega⟩ l) = x (ix5 0 r 0 qc l) := by
  pointwise [k0_pay9]

end Cert.NaPoint

end
-- ==== Proof.NaBlock.lean ====
/- The neighbourhood attention's stored block at an index. -/
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.NaPoint

@[expose] public section

set_option maxRecDepth 65536

noncomputable section

namespace Cert.NaBlock

open Idealize.ShloMosaic Idealize.ShloMosaic.TcCoe Idealize.SL.Sem
open Idealize.ShloMosaic.Pipeline (Dat)
open Cert.KernelIdeal Cert.KernelIdeal.Gen Cert.Softmax Cert.NaMath Cert.NaPoint

/-- The score of a stacked key row: the query's lanes of one head against the key's, and the bias. -/
def score (q : FVec Ideal S1x8x1x16x1024 .bf16) (ks : Fin 512 → Fin 1024 → EReal) (b : FVec Ideal S1x1x8x256x512 .f32)
    (rl : Fin 8) (qc : Fin 16) (l : Fin 1024) (j : Fin 512) : EReal :=
  (∑ x : Fin 128, (if x.val / 64 = l.val / 64 % 2 then q (ix5 0 rl 0 qc ⟨l.val / 128 * 128 + x.val, by omega⟩) else 0)
      * ks j ⟨l.val / 128 * 128 + x.val, by omega⟩)
    + b (ix5 0 0 ⟨l.val / 128, by omega⟩ ⟨l.val / 64 % 2 * 128 + (rl.val * 16 + qc.val), by omega⟩ j)

/-- One lane of the stored block. -/
def cell (q : FVec Ideal S1x8x1x16x1024 .bf16) (ks vs : Fin 512 → Fin 1024 → EReal) (b : FVec Ideal S1x1x8x256x512 .f32)
    (rl : Fin 8) (qc : Fin 16) (l : Fin 1024) : EReal :=
  late (score q ks b rl qc l) (fun j => vs j l)

/-- A pair of heads stores its lanes of the block. -/
theorem piece (o : ℕ) (hp : Fin 8) (ho : o = hp.val * 128) (q5 : FVec Ideal S1x8x1x16x1024 .bf16) (q : FVec Ideal S128x128 .bf16) (k v : FVec Ideal S512x128 .bf16) (b : FVec Ideal S1x1x1x256x512 .f32)
    (B : FVec Ideal S1x1x8x256x512 .f32) (ks vs : Fin 512 → Fin 1024 → EReal)
    (hq : ∀ (rl : Fin 8) (qc : Fin 16) (x : Fin 128), q (ix2 ⟨rl.val * 16 + qc.val, by omega⟩ x) = q5 (ix5 0 rl 0 qc ⟨o + x.val, by omega⟩))
    (hk : ∀ (j : Fin 512) (x : Fin 128), k (ix2 j x) = ks j ⟨o + x.val, by omega⟩)
    (hv : ∀ (j : Fin 512) (x : Fin 128), v (ix2 j x) = vs j ⟨o + x.val, by omega⟩)
    (hb : ∀ (r : Fin 256) (j : Fin 512), b (ix5 0 0 0 r j) = B (ix5 0 0 hp r j))
    (y : S1x8x1x16x128.Idx) (rl : Fin 8) (qc : Fin 16) (l : Fin 1024) (h1 : rl.val = (y 1 : ℕ)) (h3 : qc.val = (y 3 : ℕ)) (h4 : l.val = o + (y 4 : ℕ)) :
    pair q k b v y = cell q5 ks vs B rl qc l := by
  obtain ⟨x, hx⟩ : ∃ x : Fin 128, x.val = (y 4 : ℕ) := ⟨⟨(y 4 : ℕ), (y 4).isLt⟩, rfl⟩
  have ey : y = ix5 0 rl 0 qc x := by
    rw [eq_ix5 y]
    have e0 : y 0 = (0 : Fin 1) := Subsingleton.elim (α := Fin 1) _ _
    have e2 : y 2 = (0 : Fin 1) := Subsingleton.elim (α := Fin 1) _ _
    rw [e0, e2, show y 1 = rl from Fin.ext h1.symm, show y 3 = qc from Fin.ext h3.symm, show y 4 = x from Fin.ext hx.symm]
  rw [ey]
  have hl : l = ⟨o + x.val, by omega⟩ := Fin.ext (by show l.val = o + x.val; omega)
  have hd : l.val / 128 * 128 = o := by omega
  have hd' : (⟨l.val / 128, by omega⟩ : Fin 8) = hp := Fin.ext (by show l.val / 128 = hp.val; omega)
  have ev : (fun j => v (ix2 j x)) = fun j => vs j l := by funext j; rw [hv, hl]
  unfold pair
  rw [join_at]
  by_cases hx64 : x.val < 64
  · rw [if_pos hx64, row_at, ev]
    unfold cell
    refine congrArg (fun s => late s _) (funext fun j => ?_)
    rw [scores_at, hb]
    unfold score
    have ea : l.val / 64 % 2 = 0 := by omega
    refine congrArg₂ (· + ·) (Finset.sum_congr rfl fun z _ => congrArg₂ (· * ·) ?_ ?_) ?_
    · refine (split_top q ⟨rl.val * 16 + qc.val, by omega⟩ z).trans ?_
      refine if_congr ?_ ?_ rfl
      · rw [ea]; omega
      · rw [hq]; exact congrArg (fun w => q5 (ix5 0 rl 0 qc w)) (Fin.ext (by show o + z.val = l.val / 128 * 128 + z.val; omega))
    · rw [hk]; exact congrArg (ks j) (Fin.ext (by show o + z.val = l.val / 128 * 128 + z.val; omega))
    · rw [hd']; exact congrArg (fun w => B (ix5 0 0 hp w j)) (Fin.ext (by show rl.val * 16 + qc.val = l.val / 64 % 2 * 128 + (rl.val * 16 + qc.val); omega))
  · rw [if_neg hx64, row_at, ev]
    unfold cell
    refine congrArg (fun s => late s _) (funext fun j => ?_)
    rw [scores_at, hb]
    unfold score
    have ea : l.val / 64 % 2 = 1 := by omega
    refine congrArg₂ (· + ·) (Finset.sum_congr rfl fun z _ => congrArg₂ (· * ·) ?_ ?_) ?_
    · refine (split_low q ⟨rl.val * 16 + qc.val, by omega⟩ z).trans ?_
      rw [← ite_not]
      refine if_congr ?_ ?_ rfl
      · rw [ea]; omega
      · rw [hq]; exact congrArg (fun w => q5 (ix5 0 rl 0 qc w)) (Fin.ext (by show o + z.val = l.val / 128 * 128 + z.val; omega))
    · rw [hk]; exact congrArg (ks j) (Fin.ext (by show o + z.val = l.val / 128 * 128 + z.val; omega))
    · rw [hd']; exact congrArg (fun w => B (ix5 0 0 hp w j)) (Fin.ext (by show 128 + (rl.val * 16 + qc.val) = l.val / 64 % 2 * 128 + (rl.val * 16 + qc.val); omega))

theorem bias_idx (B : FVec Ideal S1x1x8x256x512 .f32) (e : S1x1x8x256x512.Idx) (hp : Fin 8) (r : Fin 256) (j : Fin 512)
    (h2 : (e 2 : ℕ) = hp.val) (h3 : (e 3 : ℕ) = r.val) (h4 : (e 4 : ℕ) = j.val) : B e = B (ix5 0 0 hp r j) := by
  rw [eq_ix5 e, show e 0 = (0 : Fin 1) from Subsingleton.elim (α := Fin 1) _ _, show e 1 = (0 : Fin 1) from Subsingleton.elim (α := Fin 1) _ _,
    show e 2 = hp from Fin.ext h2, show e 3 = r from Fin.ext h3, show e 4 = j from Fin.ext h4]

variable (m : (ℓ : Loc nD τ sig) → Buf (Elt Ideal) ℓ) (c : Dev nD)

/-- The stacked keys and values of a point. -/
def keys (t : Fin grid0.N) : Fin 512 → Fin 1024 → EReal := stack (k0_pay2 (iblk m c 1 t)) (k0_pay3 (iblk m c 2 t)) (k0_pay4 (iblk m c 3 t))
def vals (t : Fin grid0.N) : Fin 512 → Fin 1024 → EReal := stack (k0_pay6 (k0_pay5 (iblk m c 4 t))) (k0_pay7 (iblk m c 5 t)) (k0_pay8 (iblk m c 6 t))

theorem cut0 (q : FVec Ideal S1x8x1x16x1024 .bf16) (rl : Fin 8) (qc : Fin 16) (x : Fin 128) :
    extractStridedSlice S128x128 ![0, 0] (k0_pay9 q) slices_S128x1024_o0_0_S128x128 (ix2 ⟨rl.val * 16 + qc.val, by omega⟩ x) = q (ix5 0 rl 0 qc ⟨0 + x.val, by omega⟩) := by
  pointwise [k0_pay9]
theorem cut1 (q : FVec Ideal S1x8x1x16x1024 .bf16) (rl : Fin 8) (qc : Fin 16) (x : Fin 128) :
    extractStridedSlice S128x128 ![0, 128] (k0_pay9 q) slices_S128x1024_o0_128_S128x128 (ix2 ⟨rl.val * 16 + qc.val, by omega⟩ x) = q (ix5 0 rl 0 qc ⟨128 + x.val, by omega⟩) := by
  pointwise [k0_pay9]
theorem cut2 (q : FVec Ideal S1x8x1x16x1024 .bf16) (rl : Fin 8) (qc : Fin 16) (x : Fin 128) :
    extractStridedSlice S128x128 ![0, 256] (k0_pay9 q) slices_S128x1024_o0_256_S128x128 (ix2 ⟨rl.val * 16 + qc.val, by omega⟩ x) = q (ix5 0 rl 0 qc ⟨256 + x.val, by omega⟩) := by
  pointwise [k0_pay9]
theorem cut3 (q : FVec Ideal S1x8x1x16x1024 .bf16) (rl : Fin 8) (qc : Fin 16) (x : Fin 128) :
    extractStridedSlice S128x128 ![0, 384] (k0_pay9 q) slices_S128x1024_o0_384_S128x128 (ix2 ⟨rl.val * 16 + qc.val, by omega⟩ x) = q (ix5 0 rl 0 qc ⟨384 + x.val, by omega⟩) := by
  pointwise [k0_pay9]
theorem cut4 (q : FVec Ideal S1x8x1x16x1024 .bf16) (rl : Fin 8) (qc : Fin 16) (x : Fin 128) :
    extractStridedSlice S128x128 ![0, 512] (k0_pay9 q) slices_S128x1024_o0_512_S128x128 (ix2 ⟨rl.val * 16 + qc.val, by omega⟩ x) = q (ix5 0 rl 0 qc ⟨512 + x.val, by omega⟩) := by
  pointwise [k0_pay9]
theorem cut5 (q : FVec Ideal S1x8x1x16x1024 .bf16) (rl : Fin 8) (qc : Fin 16) (x : Fin 128) :
    extractStridedSlice S128x128 ![0, 640] (k0_pay9 q) slices_S128x1024_o0_640_S128x128 (ix2 ⟨rl.val * 16 + qc.val, by omega⟩ x) = q (ix5 0 rl 0 qc ⟨640 + x.val, by omega⟩) := by
  pointwise [k0_pay9]
theorem cut6 (q : FVec Ideal S1x8x1x16x1024 .bf16) (rl : Fin 8) (qc : Fin 16) (x : Fin 128) :
    extractStridedSlice S128x128 ![0, 768] (k0_pay9 q) slices_S128x1024_o0_768_S128x128 (ix2 ⟨rl.val * 16 + qc.val, by omega⟩ x) = q (ix5 0 rl 0 qc ⟨768 + x.val, by omega⟩) := by
  pointwise [k0_pay9]
theorem cut7 (q : FVec Ideal S1x8x1x16x1024 .bf16) (rl : Fin 8) (qc : Fin 16) (x : Fin 128) :
    extractStridedSlice S128x128 ![0, 896] (k0_pay9 q) slices_S128x1024_o0_896_S128x128 (ix2 ⟨rl.val * 16 + qc.val, by omega⟩ x) = q (ix5 0 rl 0 qc ⟨896 + x.val, by omega⟩) := by
  pointwise [k0_pay9]

theorem out_at (t : Fin grid0.N) (y : S1x8x1x16x1024.Idx) :
    (dats (F := Ideal) m 0 c).after 8 t y = cell (iblk m c 0 t) (keys m c t) (vals m c t) (iblk m c 7 t) (y 1) (y 3) (y 4) := by
  rw [after0_8]; unfold outsAt0
  frame_out
  canon_tiles x h
  · rw [pair7]
    refine piece 896 7 rfl _ _ _ _ _ _ _ _ (cut7 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 896 + 1 * z.val = 896 + z.val; omega))
    · rw [View.readCov_eq_canon']
      exact (stack_canon _ _ _ _).trans (stack_idx _ _ _ _ _ _ (by show 0 + 1 * j.val = j.val; omega) (by show 896 + 1 * z.val = 896 + z.val; omega))
    · exact bias_idx (iblk m c 7 t) _ 7 r j rfl (by show 0 + 1 * r.val = r.val; omega) (by show 0 + 1 * j.val = j.val; omega)
  · rw [pair6]
    refine piece 768 6 rfl _ _ _ _ _ _ _ _ (cut6 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 768 + 1 * z.val = 768 + z.val; omega))
    · rw [View.readCov_eq_canon']
      exact (stack_canon _ _ _ _).trans (stack_idx _ _ _ _ _ _ (by show 0 + 1 * j.val = j.val; omega) (by show 768 + 1 * z.val = 768 + z.val; omega))
    · exact bias_idx (iblk m c 7 t) _ 6 r j rfl (by show 0 + 1 * r.val = r.val; omega) (by show 0 + 1 * j.val = j.val; omega)
  · rw [pair5]
    refine piece 640 5 rfl _ _ _ _ _ _ _ _ (cut5 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 640 + 1 * z.val = 640 + z.val; omega))
    · rw [View.readCov_eq_canon']
      exact (stack_canon _ _ _ _).trans (stack_idx _ _ _ _ _ _ (by show 0 + 1 * j.val = j.val; omega) (by show 640 + 1 * z.val = 640 + z.val; omega))
    · exact bias_idx (iblk m c 7 t) _ 5 r j rfl (by show 0 + 1 * r.val = r.val; omega) (by show 0 + 1 * j.val = j.val; omega)
  · rw [pair4]
    refine piece 512 4 rfl _ _ _ _ _ _ _ _ (cut4 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 512 + 1 * z.val = 512 + z.val; omega))
    · rw [View.readCov_eq_canon']
      exact (stack_canon _ _ _ _).trans (stack_idx _ _ _ _ _ _ (by show 0 + 1 * j.val = j.val; omega) (by show 512 + 1 * z.val = 512 + z.val; omega))
    · exact bias_idx (iblk m c 7 t) _ 4 r j rfl (by show 0 + 1 * r.val = r.val; omega) (by show 0 + 1 * j.val = j.val; omega)
  · rw [pair3]
    refine piece 384 3 rfl _ _ _ _ _ _ _ _ (cut3 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 384 + 1 * z.val = 384 + z.val; omega))
    · rw [View.readCov_eq_canon']
      exact (stack_canon _ _ _ _).trans (stack_idx _ _ _ _ _ _ (by show 0 + 1 * j.val = j.val; omega) (by show 384 + 1 * z.val = 384 + z.val; omega))
    · exact bias_idx (iblk m c 7 t) _ 3 r j rfl (by show 0 + 1 * r.val = r.val; omega) (by show 0 + 1 * j.val = j.val; omega)
  · rw [pair2]
    refine piece 256 2 rfl _ _ _ _ _ _ _ _ (cut2 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 256 + 1 * z.val = 256 + z.val; omega))
    · rw [View.readCov_eq_canon']
      exact (stack_canon _ _ _ _).trans (stack_idx _ _ _ _ _ _ (by show 0 + 1 * j.val = j.val; omega) (by show 256 + 1 * z.val = 256 + z.val; omega))
    · exact bias_idx (iblk m c 7 t) _ 2 r j rfl (by show 0 + 1 * r.val = r.val; omega) (by show 0 + 1 * j.val = j.val; omega)
  · rw [pair1]
    refine piece 128 1 rfl _ _ _ _ _ _ _ _ (cut1 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 128 + 1 * z.val = 128 + z.val; omega))
    · rw [View.readCov_eq_canon']
      exact (stack_canon _ _ _ _).trans (stack_idx _ _ _ _ _ _ (by show 0 + 1 * j.val = j.val; omega) (by show 128 + 1 * z.val = 128 + z.val; omega))
    · exact bias_idx (iblk m c 7 t) _ 1 r j rfl (by show 0 + 1 * r.val = r.val; omega) (by show 0 + 1 * j.val = j.val; omega)
  · rw [pair0]
    refine piece 0 0 rfl _ _ _ _ _ _ _ _ (cut0 _) (fun j z => ?_) (fun j z => ?_) (fun r j => ?_) x _ _ _ (by omega) (by omega) (by omega)
    · rw [View.readCov_eq_canon']
      exact (stack_canon _ _ _ _).trans (stack_idx _ _ _ _ _ _ (by show 0 + 1 * j.val = j.val; omega) (by show 0 + 1 * z.val = 0 + z.val; omega))
    · rw [View.readCov_eq_canon']
      exact (stack_canon _ _ _ _).trans (stack_idx _ _ _ _ _ _ (by show 0 + 1 * j.val = j.val; omega) (by show 0 + 1 * z.val = 0 + z.val; omega))
    · exact bias_idx (iblk m c 7 t) _ 0 r j rfl (by show 0 + 1 * r.val = r.val; omega) (by show 0 + 1 * j.val = j.val; omega)

end Cert.NaBlock

end
-- ==== Proof.NaRef.lean ====
/- The neighbourhood attention as the reference writes it, at an index. -/
module

public import proofs.«01_k».proof.Defs
public import proofs.«01_k».proof.Proof.Gen.ReferenceIdeal.Run
public import Idealize.ShloMosaic.Lib.Pointwise
public import Idealize.ShloMosaic.Lib.Claim
public import proofs.«01_k».proof.Proof.Softmax

@[expose] public section

set_option maxRecDepth 65536

noncomputable section

namespace Cert.NaRef

open Idealize.ShloMosaic Idealize.ShloMosaic.TcCoe Idealize.SL.Sem
open Cert.ReferenceIdeal Cert.ReferenceIdeal.Gen Cert.Softmax

/-- The first grid row of a query row's window. -/
def rowStart (r : ℕ) : ℕ := min 120 (r - 4)
/-- The grid column of a column block's key. -/
def keyCol (n k : ℕ) : ℕ := min 32 (16 * n - 8) + k
/-- The first grid column of a query column's window. -/
def colStart (n q : ℕ) : ℕ := min 48 (16 * n + q - 8)
/-- A key column lies in the query column's window. -/
def colIn (n q k : ℕ) : Prop := colStart n q ≤ keyCol n k ∧ keyCol n k < colStart n q + 16
instance (n q k : ℕ) : Decidable (colIn n q k) := inferInstanceAs (Decidable (_ ∧ _))
/-- The relative column. -/
def colRel (n q k : ℕ) : ℕ := min 30 (keyCol n k + 15 - (16 * n + q))

theorem rowStart_le (r : ℕ) : rowStart r ≤ 120 := min_le_left _ _
theorem colRel_lt (n q k : ℕ) : colRel n q k < 31 := lt_of_le_of_lt (min_le_left _ _) (by norm_num)
theorem rowRel_lt (r : Fin 128) (i : ℕ) (hi : i < 8) : rowStart r.val + i + 7 - r.val < 15 := by
  have := r.isLt
  unfold rowStart; omega

/-- The rows a query row looks at. -/
def keyRows : IVec S128x8 32 :=
  addi (broadcastInDim S128x8 ![0, 1] bcast_S128x1_S128x8_0_1 (minsi (broadcastInDim S128x1 ![] bcast_S_S128x1 (id (constantI S_ 32 120#32))) (maxsi (broadcastInDim S128x1 ![] bcast_S_S128x1 (id (constantI S_ 32 0#32))) (subi (broadcastInDim S128x1 ![0] bcast_S128_S128x1_0 (iotaInDim S128 32 0)) (broadcastInDim S128x1 ![] bcast_S_S128x1 (constantI S_ 32 4#32)))))) (broadcastInDim S128x8 ![0, 1] bcast_S1x8_S128x8_0_1 (broadcastInDim S1x8 ![1] bcast_S8_S1x8_1 (iotaInDim S8 32 0)))

/-- Their rows in the table of relative rows. -/
def drs : IVec S128x8 32 :=
  addi (subi keyRows (broadcastInDim S128x8 ![0, 1] bcast_S128x1_S128x8_0_1 (broadcastInDim S128x1 ![0] bcast_S128_S128x1_0 (iotaInDim S128 32 0)))) (broadcastInDim S128x8 ![] bcast_S_S128x8 (constantI S_ 32 7#32))

/-- The columns a query column looks at. -/
def colOk : IVec S4x16x32 1 :=
  andi (cmpi .sge (broadcastInDim S4x16x32 ![0, 1, 2] bcast_S4x1x32_S4x16x32_0_1_2 (addi (broadcastInDim S4x1x32 ![0, 1, 2] bcast_S4x1x1_S4x1x32_0_1_2 (broadcastInDim S4x1x1 ![0] bcast_S4_S4x1x1_0 ((fun i => lit0 (S4.rowMajor i))))) (broadcastInDim S4x1x32 ![0, 1, 2] bcast_S1x1x32_S4x1x32_0_1_2 (broadcastInDim S1x1x32 ![2] bcast_S32_S1x1x32_2 (iotaInDim S32 32 0))))) (broadcastInDim S4x16x32 ![0, 1, 2] bcast_S4x16x1_S4x16x32_0_1_2 (broadcastInDim S4x16x1 ![0, 1] bcast_S4x16_S4x16x1_0_1 ((fun i => lit1 (S4x16.rowMajor i)))))) (cmpi .slt (broadcastInDim S4x16x32 ![0, 1, 2] bcast_S4x1x32_S4x16x32_0_1_2 (addi (broadcastInDim S4x1x32 ![0, 1, 2] bcast_S4x1x1_S4x1x32_0_1_2 (broadcastInDim S4x1x1 ![0] bcast_S4_S4x1x1_0 ((fun i => lit0 (S4.rowMajor i))))) (broadcastInDim S4x1x32 ![0, 1, 2] bcast_S1x1x32_S4x1x32_0_1_2 (broadcastInDim S1x1x32 ![2] bcast_S32_S1x1x32_2 (iotaInDim S32 32 0))))) (broadcastInDim S4x16x32 ![0, 1, 2] bcast_S4x16x1_S4x16x32_0_1_2 ((fun i => lit2 (S4x16x1.rowMajor i)))))

/-- Their columns in the table of relative columns. -/
def dcs : IVec S4x16x32 32 :=
  minsi (broadcastInDim S4x16x32 ![] bcast_S_S4x16x32 (id (constantI S_ 32 30#32))) (maxsi (broadcastInDim S4x16x32 ![] bcast_S_S4x16x32 (id (constantI S_ 32 0#32))) (addi (subi (broadcastInDim S4x16x32 ![0, 1, 2] bcast_S4x1x32_S4x16x32_0_1_2 (addi (broadcastInDim S4x1x32 ![0, 1, 2] bcast_S4x1x1_S4x1x32_0_1_2 (broadcastInDim S4x1x1 ![0] bcast_S4_S4x1x1_0 ((fun i => lit0 (S4.rowMajor i))))) (broadcastInDim S4x1x32 ![0, 1, 2] bcast_S1x1x32_S4x1x32_0_1_2 (broadcastInDim S1x1x32 ![2] bcast_S32_S1x1x32_2 (iotaInDim S32 32 0))))) (broadcastInDim S4x16x32 ![0, 1, 2] bcast_S4x16x1_S4x16x32_0_1_2 (broadcastInDim S4x16x1 ![0, 1] bcast_S4x16_S4x16x1_0_1 ((fun i => lit3 (S4x16.rowMajor i)))))) (broadcastInDim S4x16x32 ![] bcast_S_S4x16x32 (constantI S_ 32 15#32))))

/-- Both, side by side. -/
def rel : IVec S128x4x16x8x32x2 32 :=
  concatenate S128x4x16x8x32x2 5 [⟨S128x4x16x8x32x1, (broadcastInDim S128x4x16x8x32x1 ![0, 1, 2, 3, 4] bcast_S128x4x16x8x32_S128x4x16x8x32x1_0_1_2_3_4 (broadcastInDim S128x4x16x8x32 ![0, 1, 2, 3, 4] bcast_S128x1x1x8x1_S128x4x16x8x32_0_1_2_3_4 (broadcastInDim S128x1x1x8x1 ![0, 3] bcast_S128x8_S128x1x1x8x1_0_3 drs)))⟩, ⟨S128x4x16x8x32x1, (broadcastInDim S128x4x16x8x32x1 ![0, 1, 2, 3, 4] bcast_S128x4x16x8x32_S128x4x16x8x32x1_0_1_2_3_4 (broadcastInDim S128x4x16x8x32 ![0, 1, 2, 3, 4] bcast_S1x4x16x1x32_S128x4x16x8x32_0_1_2_3_4 (broadcastInDim S1x4x16x1x32 ![1, 2, 4] bcast_S4x16x32_S1x4x16x1x32_1_2_4 dcs)))⟩] concatenates_S128x4x16x8x32x1_S128x4x16x8x32x1_S128x4x16x8x32x2_d5

/-- The queries by head. -/
def heads (q : FVec Ideal S4x8192x1024 .bf16) : FVec Ideal S4x128x4x16x16x64 .f32 :=
  shapeCast _ (extf .f32 q bitsLt_bf16_f32) shapeCasts_S4x8192x1024_S4x128x4x16x16x64

/-- The rows of the window, flattened, by head. -/
def window (k : FVec Ideal S4x128x4x32x1024 .bf16) : FVec Ideal S4x128x4x256x16x64 .f32 :=
  shapeCast _ (transpose S4x128x4x8x32x1024 [0, 1, 3, 2, 4, 5] (Host.gather gather_S4x128x4x32x1024_S128x8x1_S4x128x8x4x32x1024_0345_1_n_n_1_2_414321024 (extf .f32 k bitsLt_bf16_f32) (broadcastInDim S128x8x1 ![0, 1] bcast_S128x8_S128x8x1_0_1 keyRows)) transposes_S4x128x8x4x32x1024_S4x128x4x8x32x1024_0_1_3_2_4_5) shapeCasts_S4x128x4x8x32x1024_S4x128x4x256x16x64

/-- The dot products. -/
def dots (q : FVec Ideal S4x8192x1024 .bf16) (k : FVec Ideal S4x128x4x32x1024 .bf16) : FVec Ideal S4x128x16x4x16x256 .f32 :=
  Host.dotGeneral dot_S4x128x4x16x16x64_S4x128x4x256x16x64_S4x128x16x4x16x256_5_5_3_3_0142_0142 none (heads q) (window k)

/-- The relative position biases. -/
def biases (p : FVec Ideal S16x15x31 .f32) : FVec Ideal S1x128x16x4x16x256 .f32 :=
  shapeCast _ (transpose S128x16x4x16x8x32 [1, 0, 2, 3, 4, 5] (Host.gather gather_S16x15x31_S128x4x16x8x32x2_S16x128x4x16x8x32_0_12_n_n_12_5_1611 p rel) transposes_S16x128x4x16x8x32_S128x16x4x16x8x32_1_0_2_3_4_5) shapeCasts_S128x16x4x16x8x32_S1x128x16x4x16x256

/-- The columns looked at, by key. -/
def mask : IVec S1x128x16x4x16x256 1 :=
  shapeCast _ (broadcastInDim S128x16x4x16x8x32 ![0, 1, 2, 3, 4, 5] bcast_S1x1x4x16x1x32_S128x16x4x16x8x32_0_1_2_3_4_5 (broadcastInDim S1x1x4x16x1x32 ![2, 3, 5] bcast_S4x16x32_S1x1x4x16x1x32_2_3_5 colOk)) shapeCasts_S128x16x4x16x8x32_S1x128x16x4x16x256

/-- The scores. -/
def scores (q : FVec Ideal S4x8192x1024 .bf16) (k : FVec Ideal S4x128x4x32x1024 .bf16) (p : FVec Ideal S16x15x31 .f32) : FVec Ideal S4x128x16x4x16x256 .f32 :=
  select (broadcastInDim S4x128x16x4x16x256 ![0, 1, 2, 3, 4, 5] bcast_S1x128x16x4x16x256_S4x128x16x4x16x256_0_1_2_3_4_5 mask) (addf (dots q k) (broadcastInDim S4x128x16x4x16x256 ![0, 1, 2, 3, 4, 5] bcast_S1x128x16x4x16x256_S4x128x16x4x16x256_0_1_2_3_4_5 (biases p))) (broadcastInDim S4x128x16x4x16x256 ![] bcast_S_S4x128x16x4x16x256 (id (constant S_ .f32 0xFF800000#32)))

/-- The largest scores. -/
def tops (s : FVec Ideal S4x128x16x4x16x256 .f32) : FVec Ideal S4x128x16x4x16 .f32 :=
  Host.reduce FloatOps.maximumf s (constant S_ .f32 0xFF800000#32) reducesTo_S4x128x16x4x16x256_S4x128x16x4x16_d5 h_S_

/-- The same, from the least value. -/
def maxs (u : FVec Ideal S4x128x16x4x16 .f32) : FVec Ideal S4x128x16x4x16 .f32 :=
  maximumf (broadcastInDim S4x128x16x4x16 ![] bcast_S_S4x128x16x4x16 (constant S_ .f32 0xFF800000#32)) u

/-- The exponentials. -/
def exps (s : FVec Ideal S4x128x16x4x16x256 .f32) : FVec Ideal S4x128x16x4x16x256 .f32 :=
  Host.exp (subf s (broadcastInDim S4x128x16x4x16x256 ![0, 1, 2, 3, 4, 5] bcast_S4x128x16x4x16x1_S4x128x16x4x16x256_0_1_2_3_4_5 (broadcastInDim S4x128x16x4x16x1 ![0, 1, 2, 3, 4] bcast_S4x128x16x4x16_S4x128x16x4x16x1_0_1_2_3_4 (maxs (tops s)))))

/-- The softmax. -/
def weights (s : FVec Ideal S4x128x16x4x16x256 .f32) : FVec Ideal S4x128x16x4x16x256 .f32 :=
  Host.divf (exps s) (broadcastInDim S4x128x16x4x16x256 ![0, 1, 2, 3, 4, 5] bcast_S4x128x16x4x16x1_S4x128x16x4x16x256_0_1_2_3_4_5 (broadcastInDim S4x128x16x4x16x1 ![0, 1, 2, 3, 4] bcast_S4x128x16x4x16_S4x128x16x4x16x1_0_1_2_3_4 (Host.reduceAdd (exps s) (constant S_ .f32 0x00000000#32) reducesTo_S4x128x16x4x16x256_S4x128x16x4x16_d5 h_S_)))

/-- The values weighted. -/
def mixed (w : FVec Ideal S4x128x16x4x16x256 .f32) (v : FVec Ideal S4x128x4x32x1024 .bf16) : FVec Ideal S4x128x4x16x1024 .bf16 :=
  truncf .bf16 (shapeCast _ (transpose S4x128x4x16x16x64 [0, 1, 2, 5, 3, 4] (Host.dotGeneral dot_S4x128x4x256x16x64_S4x128x16x4x16x256_S4x128x4x16x64x16_3_5_5_4_0124_0132 none (window v) w) transposes_S4x128x4x16x64x16_S4x128x4x16x16x64_0_1_2_5_3_4) shapeCasts_S4x128x4x16x16x64_S4x128x4x16x1024) bitsLt_bf16_f32

theorem keyRows_at : ∀ (r : Fin 128) (i : Fin 8), (keyRows (ix2 r i)).toInt.toNat = rowStart r.val + i.val := by decide +kernel
theorem drs_at : ∀ (r : Fin 128) (i : Fin 8), (drs (ix2 r i)).toInt.toNat = rowStart r.val + i.val + 7 - r.val := by decide +kernel
theorem colOk_at : ∀ (n : Fin 4) (q : Fin 16) (k : Fin 32), (colOk (ix3 n q k) = 1#1) ↔ colIn n.val q.val k.val := by decide +kernel
theorem dcs_at : ∀ (n : Fin 4) (q : Fin 16) (k : Fin 32), (dcs (ix3 n q k)).toInt.toNat = colRel n.val q.val k.val := by decide +kernel

theorem rel_row (r : Fin 128) (n : Fin 4) (q : Fin 16) (i : Fin 8) (k : Fin 32) : rel (ix6 r n q i k 0) = drs (ix2 r i) := by
  pointwise [rel]
theorem rel_col (r : Fin 128) (n : Fin 4) (q : Fin 16) (i : Fin 8) (k : Fin 32) : rel (ix6 r n q i k 1) = dcs (ix3 n q k) := by
  pointwise [rel]

/-- The gather of grid rows, at an index. -/
theorem rows_at (v : FVec Ideal S4x128x4x32x1024 .f32) (c : IVec S128x8x1 32) (b : Fin 4) (r : Fin 128) (i : Fin 8) (n : Fin 4) (k : Fin 32) (l : Fin 1024)
    (s : Fin 128) (hs : (c (ix3 r i 0)).toInt.toNat = s.val) :
    Host.gather gather_S4x128x4x32x1024_S128x8x1_S4x128x8x4x32x1024_0345_1_n_n_1_2_414321024 v c (ix6 b r i n k l) = v (ix5 b s n k l) := by
  have hsi : gather_S4x128x4x32x1024_S128x8x1_S4x128x8x4x32x1024_0345_1_n_n_1_2_414321024.siIdx (ix6 b r i n k l) ⟨0, by decide⟩ = ix3 r i 0 := by
    funext b; refine Fin.ext ?_
    match b with
    | ⟨0, _⟩ => rfl
    | ⟨1, _⟩ => rfl
    | ⟨2, _⟩ => rfl
  unfold Host.gather
  refine congrArg v (funext fun a => Fin.ext ?_)
  match a with
  | ⟨0, _⟩ => show 0 + 0 + b.val = b.val; omega
  | ⟨1, _⟩ =>
    show min (c (gather_S4x128x4x32x1024_S128x8x1_S4x128x8x4x32x1024_0345_1_n_n_1_2_414321024.siIdx (ix6 b r i n k l) ⟨0, by decide⟩)).toInt.toNat (128 - 1) + 0 + 0 = s.val
    rw [hsi, hs]; omega
  | ⟨2, _⟩ => show 0 + 0 + n.val = n.val; omega
  | ⟨3, _⟩ => show 0 + 0 + k.val = k.val; omega
  | ⟨4, _⟩ => show 0 + 0 + l.val = l.val; omega

/-- The gather of biases, at an index. -/
theorem bias_at (v : FVec Ideal S16x15x31 .f32) (c : IVec S128x4x16x8x32x2 32) (h : Fin 16) (r : Fin 128) (n : Fin 4) (q : Fin 16) (i : Fin 8) (k : Fin 32)
    (x : Fin 15) (y : Fin 31) (hx : (c (ix6 r n q i k 0)).toInt.toNat = x.val) (hy : (c (ix6 r n q i k 1)).toInt.toNat = y.val) :
    Host.gather gather_S16x15x31_S128x4x16x8x32x2_S16x128x4x16x8x32_0_12_n_n_12_5_1611 v c (ix6 h r n q i k) = v (ix3 h x y) := by
  have h0 : gather_S16x15x31_S128x4x16x8x32x2_S16x128x4x16x8x32_0_12_n_n_12_5_1611.siIdx (ix6 h r n q i k) ⟨0, by decide⟩ = ix6 r n q i k 0 := by
    funext b; refine Fin.ext ?_
    match b with
    | ⟨0, _⟩ => rfl
    | ⟨1, _⟩ => rfl
    | ⟨2, _⟩ => rfl
    | ⟨3, _⟩ => rfl
    | ⟨4, _⟩ => rfl
    | ⟨5, _⟩ => rfl
  have h1 : gather_S16x15x31_S128x4x16x8x32x2_S16x128x4x16x8x32_0_12_n_n_12_5_1611.siIdx (ix6 h r n q i k) ⟨1, by decide⟩ = ix6 r n q i k 1 := by
    funext b; refine Fin.ext ?_
    match b with
    | ⟨0, _⟩ => rfl
    | ⟨1, _⟩ => rfl
    | ⟨2, _⟩ => rfl
    | ⟨3, _⟩ => rfl
    | ⟨4, _⟩ => rfl
    | ⟨5, _⟩ => rfl
  unfold Host.gather
  refine congrArg v (funext fun a => Fin.ext ?_)
  match a with
  | ⟨0, _⟩ => show 0 + 0 + h.val = h.val; omega
  | ⟨1, _⟩ =>
    show min (c (gather_S16x15x31_S128x4x16x8x32x2_S16x128x4x16x8x32_0_12_n_n_12_5_1611.siIdx (ix6 h r n q i k) ⟨0, by decide⟩)).toInt.toNat (15 - 1) + 0 + 0 = x.val
    rw [h0, hx]; omega
  | ⟨2, _⟩ =>
    show min (c (gather_S16x15x31_S128x4x16x8x32x2_S16x128x4x16x8x32_0_12_n_n_12_5_1611.siIdx (ix6 h r n q i k) ⟨1, by decide⟩)).toInt.toNat (31 - 1) + 0 + 0 = y.val
    rw [h1, hy]; omega

/-- The grid row of a window's key. -/
def keyRow (r : Fin 128) (j : Fin 256) : Fin 128 := ⟨rowStart r.val + j.val / 32, by have := rowStart_le r.val; omega⟩
/-- Its column, in its block. -/
def keyIn (j : Fin 256) : Fin 32 := ⟨j.val % 32, by omega⟩

theorem heads_at (q : FVec Ideal S4x8192x1024 .bf16) (b : Fin 4) (r : Fin 128) (n : Fin 4) (c : Fin 16) (h : Fin 16) (x : Fin 64) :
    heads q (ix6 b r n c h x) = q (ix3 b ⟨r.val * 64 + n.val * 16 + c.val, by omega⟩ ⟨h.val * 64 + x.val, by omega⟩) := by
  pointwise [heads]

theorem window_at (k : FVec Ideal S4x128x4x32x1024 .bf16) (b : Fin 4) (r : Fin 128) (n : Fin 4) (j : Fin 256) (h : Fin 16) (x : Fin 64) :
    window k (ix6 b r n j h x) = k (ix5 b (keyRow r j) n (keyIn j) ⟨h.val * 64 + x.val, by omega⟩) := by
  pointwise [window]
  refine (rows_at _ _ b r ⟨j.val / 32, by omega⟩ n ⟨j.val % 32, by omega⟩ ⟨h.val * 64 + x.val, by omega⟩ (keyRow r j) ?_).trans rfl
  refine Eq.trans (congrArg (fun z : BitVec 32 => z.toInt.toNat) ?_) (keyRows_at r ⟨j.val / 32, by omega⟩)
  pointwise

theorem dots_at (q : FVec Ideal S4x8192x1024 .bf16) (k : FVec Ideal S4x128x4x32x1024 .bf16) (b : Fin 4) (r : Fin 128) (h : Fin 16) (n : Fin 4) (c : Fin 16) (j : Fin 256) :
    dots q k (ix6 b r h n c j) = ∑ x : Fin 64, heads q (ix6 b r n c h x) * window k (ix6 b r n j h x) := by
  pointwise [dots]

theorem biases_at (p : FVec Ideal S16x15x31 .f32) (r : Fin 128) (h : Fin 16) (n : Fin 4) (c : Fin 16) (j : Fin 256) :
    biases p (ix6 0 r h n c j) = p (ix3 h ⟨rowStart r.val + j.val / 32 + 7 - r.val, rowRel_lt r _ (by omega)⟩ ⟨colRel n.val c.val (j.val % 32), colRel_lt _ _ _⟩) := by
  pointwise [biases]
  exact bias_at _ _ h r n c ⟨j.val / 32, by omega⟩ ⟨j.val % 32, by omega⟩ _ _ (by rw [rel_row]; exact drs_at _ _) (by rw [rel_col]; exact dcs_at _ _ _)

theorem mask_at (r : Fin 128) (h : Fin 16) (n : Fin 4) (c : Fin 16) (j : Fin 256) :
    mask (ix6 0 r h n c j) = colOk (ix3 n c (keyIn j)) := by
  pointwise [mask, keyIn]

theorem scores_sel (q : FVec Ideal S4x8192x1024 .bf16) (k : FVec Ideal S4x128x4x32x1024 .bf16) (p : FVec Ideal S16x15x31 .f32) (b : Fin 4) (r : Fin 128) (h : Fin 16) (n : Fin 4) (c : Fin 16) (j : Fin 256) :
    scores q k p (ix6 b r h n c j) = Scalar.select (mask (ix6 0 r h n c j)) (dots q k (ix6 b r h n c j) + biases p (ix6 0 r h n c j)) (Ideal.ofBits .f32 0xFF800000#32) := by
  pointwise [scores]
  rfl

/-- The scores a reduction over the keys reads. -/
theorem last_fiber (b : Fin 4) (r : Fin 128) (h : Fin 16) (n : Fin 4) (c : Fin 16) (i : S4x128x16x4x16x256.Idx) :
    reducesTo_S4x128x16x4x16x256_S4x128x16x4x16_d5.drop i = ix5 b r h n c ↔ ∃ k : Fin 256, ix6 b r h n c k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem tops_at (s : FVec Ideal S4x128x16x4x16x256 .f32) (b : Fin 4) (r : Fin 128) (h : Fin 16) (n : Fin 4) (c : Fin 16) :
    tops s (ix5 b r h n c) = top fun j : Fin 256 => s (ix6 b r h n c j) := by
  pointwise [tops, top]
  exact Finset.fold_filter_eq_fold_of_fiber _ _ (fun k : Fin 256 => ix6 b r h n c k) (fun _ _ e => congrFun e 5) (last_fiber b r h n c) _ _

theorem maxs_at (u : FVec Ideal S4x128x16x4x16 .f32) (i : S4x128x16x4x16.Idx) : maxs u i = max (Ideal.ofBits .f32 0xFF800000#32) (u i) := by
  pointwise [maxs]

theorem exps_at (s : FVec Ideal S4x128x16x4x16x256 .f32) (b : Fin 4) (r : Fin 128) (h : Fin 16) (n : Fin 4) (c : Fin 16) (j : Fin 256) :
    exps s (ix6 b r h n c j) = Ideal.exp (s (ix6 b r h n c j) - maxs (tops s) (ix5 b r h n c)) := by
  pointwise [exps]

theorem weights_exp (s : FVec Ideal S4x128x16x4x16x256 .f32) (b : Fin 4) (r : Fin 128) (h : Fin 16) (n : Fin 4) (c : Fin 16) (j : Fin 256) :
    weights s (ix6 b r h n c j) = Ideal.div (exps s (ix6 b r h n c j)) (∑ i : Fin 256, exps s (ix6 b r h n c i)) := by
  pointwise [weights]
  refine congrArg (Ideal.div _) ?_
  unfold Ideal.hostReduceAdd
  rw [zero_add]
  exact Finset.sum_filter_eq_sum_of_fiber _ (fun k : Fin 256 => ix6 b r h n c k) (fun _ _ e => congrFun e 5) (last_fiber b r h n c) _

theorem weights_at (s : FVec Ideal S4x128x16x4x16x256 .f32) (b : Fin 4) (r : Fin 128) (h : Fin 16) (n : Fin 4) (c : Fin 16) (j : Fin 256) :
    weights s (ix6 b r h n c j) = weight (fun j => s (ix6 b r h n c j)) j := by
  have e : maxs (tops s) (ix5 b r h n c) = top fun j : Fin 256 => s (ix6 b r h n c j) := by
    rw [maxs_at, tops_at]; exact Softmax.max_top _
  rw [weights_exp]
  simp only [exps_at, e]
  rfl

theorem mixed_at (w : FVec Ideal S4x128x16x4x16x256 .f32) (v : FVec Ideal S4x128x4x32x1024 .bf16) (b : Fin 4) (r : Fin 128) (n : Fin 4) (c : Fin 16) (l : Fin 1024) :
    mixed w v (ix5 b r n c l)
      = ∑ j : Fin 256, window v (ix6 b r n j ⟨l.val / 64, by omega⟩ ⟨l.val % 64, by omega⟩) * w (ix6 b r ⟨l.val / 64, by omega⟩ n c j) := by
  pointwise [mixed]

/-- The reference's score of a key. -/
def score (q : FVec Ideal S4x8192x1024 .bf16) (k : FVec Ideal S4x128x4x32x1024 .bf16) (p : FVec Ideal S16x15x31 .f32) (b : Fin 4) (r : Fin 128) (n : Fin 4)
    (c : Fin 16) (h : Fin 16) (j : Fin 256) : EReal :=
  if colIn n.val c.val (j.val % 32) then
    (∑ x : Fin 64, q (ix3 b ⟨r.val * 64 + n.val * 16 + c.val, by omega⟩ ⟨h.val * 64 + x.val, by omega⟩) * k (ix5 b (keyRow r j) n (keyIn j) ⟨h.val * 64 + x.val, by omega⟩))
      + p (ix3 h ⟨rowStart r.val + j.val / 32 + 7 - r.val, rowRel_lt r _ (by omega)⟩ ⟨colRel n.val c.val (j.val % 32), colRel_lt _ _ _⟩)
  else Ideal.ofBits .f32 0xFF800000#32

theorem scores_at (q : FVec Ideal S4x8192x1024 .bf16) (k : FVec Ideal S4x128x4x32x1024 .bf16) (p : FVec Ideal S16x15x31 .f32) (b : Fin 4) (r : Fin 128) (h : Fin 16) (n : Fin 4) (c : Fin 16) (j : Fin 256) :
    scores q k p (ix6 b r h n c j) = score q k p b r n c h j := by
  rw [scores_sel, mask_at, dots_at, biases_at]
  simp only [heads_at, window_at]
  unfold Scalar.select score
  exact if_congr (colOk_at n c (keyIn j)) rfl rfl

/-- The attention of the reference: its result at an index. -/
def out (q : FVec Ideal S4x8192x1024 .bf16) (k v : FVec Ideal S4x128x4x32x1024 .bf16) (p : FVec Ideal S16x15x31 .f32) : FVec Ideal S4x128x4x16x1024 .bf16 :=
  mixed (weights (scores q k p)) v

theorem out_at (q : FVec Ideal S4x8192x1024 .bf16) (k v : FVec Ideal S4x128x4x32x1024 .bf16) (p : FVec Ideal S16x15x31 .f32) (b : Fin 4) (r : Fin 128) (n : Fin 4) (c : Fin 16) (l : Fin 1024) :
    out q k v p (ix5 b r n c l)
      = attend (score q k p b r n c ⟨l.val / 64, by omega⟩) (fun j => v (ix5 b (keyRow r j) n (keyIn j) l)) := by
  unfold out attend
  rw [mixed_at]
  refine Finset.sum_congr rfl fun j _ => (mul_comm _ _).trans (congrArg₂ (· * ·) ?_ ?_)
  · rw [weights_at]
    simp only [scores_at]
  · rw [window_at]
    exact congrArg (fun z => v (ix5 b (keyRow r j) n (keyIn j) z)) (Fin.ext (by show l.val / 64 * 64 + l.val % 64 = l.val; omega))

theorem result (m : (ℓ : Loc nD τ sig) → Buf (Elt Ideal) ℓ) (c : Dev nD) :
    Value.res_main_v78 m c = out (m ((c.tc : Thread nD τ).loc main_arg0)) (m ((c.tc : Thread nD τ).loc main_arg1)) (m ((c.tc : Thread nD τ).loc main_arg2)) (m ((c.tc : Thread nD τ).loc main_arg3)) := rfl

end Cert.NaRef

end
-- ==== Proof.NaBias.lean ====
/- The table of biases that the host code prepares, at an index. -/
module

public import proofs.«01_k».proof.Defs
public import proofs.«01_k».proof.Proof.Gen.KernelIdeal.Frame
public import Idealize.ShloMosaic.Lib.Pointwise
public import Idealize.ShloMosaic.Lib.Claim
public import proofs.«01_k».proof.Proof.NaRef

@[expose] public section

set_option maxRecDepth 65536

noncomputable section

namespace Cert.NaBias

open Idealize.ShloMosaic Idealize.ShloMosaic.TcCoe Idealize.SL.Sem
open Cert.KernelIdeal Cert.KernelIdeal.Gen Cert.NaRef
open Idealize.ShloMosaic.StableHlo (launchContents)

/-- The first key row of each query row, less four, in the three kinds of row block. -/
def rows : IVec S3x8x16 32 :=
  concatenate S3x8x16 0 [⟨S1x8x16, (broadcastInDim S1x8x16 ![1, 2] bcast_S8x16_S1x8x16_1_2 (addi (broadcastInDim S8x16 ![0, 1] bcast_S8x1_S8x16_0_1 (maxsi (subi (broadcastInDim S8x1 ![0] bcast_S8_S8x1_0 (iotaInDim S8 32 0)) (broadcastInDim S8x1 ![] bcast_S_S8x1 (constantI S_ 32 4#32))) (broadcastInDim S8x1 ![] bcast_S_S8x1 (constantI S_ 32 0#32)))) (broadcastInDim S8x16 ![0, 1] bcast_S1x16_S8x16_0_1 (muli (broadcastInDim S1x16 ![] bcast_S_S1x16 (constantI S_ 32 0#32)) (broadcastInDim S1x16 ![1] bcast_S16_S1x16_1 (iotaInDim S16 32 0))))))⟩, ⟨S1x8x16, (broadcastInDim S1x8x16 ![1, 2] bcast_S8x16_S1x8x16_1_2 (addi (broadcastInDim S8x16 ![0, 1] bcast_S8x1_S8x16_0_1 (subi (broadcastInDim S8x1 ![0] bcast_S8_S8x1_0 (iotaInDim S8 32 0)) (broadcastInDim S8x1 ![] bcast_S_S8x1 (constantI S_ 32 4#32)))) (broadcastInDim S8x16 ![0, 1] bcast_S1x16_S8x16_0_1 (muli (broadcastInDim S1x16 ![] bcast_S_S1x16 (constantI S_ 32 0#32)) (broadcastInDim S1x16 ![1] bcast_S16_S1x16_1 (iotaInDim S16 32 0))))))⟩, ⟨S1x8x16, (broadcastInDim S1x8x16 ![1, 2] bcast_S8x16_S1x8x16_1_2 (addi (broadcastInDim S8x16 ![0, 1] bcast_S8x1_S8x16_0_1 (minsi (subi (broadcastInDim S8x1 ![0] bcast_S8_S8x1_0 (iotaInDim S8 32 0)) (broadcastInDim S8x1 ![] bcast_S_S8x1 (constantI S_ 32 4#32))) (broadcastInDim S8x1 ![] bcast_S_S8x1 (constantI S_ 32 0#32)))) (broadcastInDim S8x16 ![0, 1] bcast_S1x16_S8x16_0_1 (muli (broadcastInDim S1x16 ![] bcast_S_S1x16 (constantI S_ 32 0#32)) (broadcastInDim S1x16 ![1] bcast_S16_S1x16_1 (iotaInDim S16 32 0))))))⟩] concatenates_S1x8x16_S1x8x16_S1x8x16_S3x8x16_d0

/-- The key rows in the window. -/
def rowOk : IVec S3x8x16 1 :=
  andi (cmpi .sge (broadcastInDim S3x8x16 ![0, 1, 2] bcast_S1x1x16_S3x8x16_0_1_2 (broadcastInDim S1x1x16 ![1, 2] bcast_S1x16_S1x1x16_1_2 (subi (broadcastInDim S1x16 ![1] bcast_S16_S1x16_1 (iotaInDim S16 32 0)) (broadcastInDim S1x16 ![] bcast_S_S1x16 (constantI S_ 32 4#32))))) rows) (cmpi .slt (broadcastInDim S3x8x16 ![0, 1, 2] bcast_S1x1x16_S3x8x16_0_1_2 (broadcastInDim S1x1x16 ![1, 2] bcast_S1x16_S1x1x16_1_2 (subi (broadcastInDim S1x16 ![1] bcast_S16_S1x16_1 (iotaInDim S16 32 0)) (broadcastInDim S1x16 ![] bcast_S_S1x16 (constantI S_ 32 4#32))))) (addi rows (broadcastInDim S3x8x16 ![] bcast_S_S3x8x16 (constantI S_ 32 8#32))))

/-- The relative rows. -/
def drs : IVec S8x16 32 :=
  minsi (broadcastInDim S8x16 ![] bcast_S_S8x16 (id (constantI S_ 32 14#32))) (maxsi (broadcastInDim S8x16 ![] bcast_S_S8x16 (id (constantI S_ 32 0#32))) (addi (subi (broadcastInDim S8x16 ![0, 1] bcast_S1x16_S8x16_0_1 (broadcastInDim S1x16 ![1] bcast_S16_S1x16_1 (iotaInDim S16 32 0))) (broadcastInDim S8x16 ![0, 1] bcast_S8x1_S8x16_0_1 (broadcastInDim S8x1 ![0] bcast_S8_S8x1_0 (iotaInDim S8 32 0)))) (broadcastInDim S8x16 ![] bcast_S_S8x16 (constantI S_ 32 3#32))))

/-- The query columns. -/
def qcols : IVec S4x16x1 32 :=
  addi (broadcastInDim S4x16x1 ![0, 1, 2] bcast_S4x1x1_S4x16x1_0_1_2 (muli (broadcastInDim S4x1x1 ![0] bcast_S4_S4x1x1_0 (iotaInDim S4 32 0)) (broadcastInDim S4x1x1 ![] bcast_S_S4x1x1 (constantI S_ 32 16#32)))) (broadcastInDim S4x16x1 ![0, 1, 2] bcast_S1x16x1_S4x16x1_0_1_2 (broadcastInDim S1x16x1 ![1] bcast_S16_S1x16x1_1 (iotaInDim S16 32 0)))

/-- The key columns. -/
def cols : IVec S4x1x32 32 :=
  addi (broadcastInDim S4x1x32 ![0, 1, 2] bcast_S4x1x1_S4x1x32_0_1_2 (broadcastInDim S4x1x1 ![0] bcast_S4_S4x1x1_0 (fun i => lit0 (S4.rowMajor i)))) (broadcastInDim S4x1x32 ![0, 1, 2] bcast_S1x1x32_S4x1x32_0_1_2 (broadcastInDim S1x1x32 ![2] bcast_S32_S1x1x32_2 (iotaInDim S32 32 0)))

/-- The key columns in the window. -/
def colOk : IVec S4x16x32 1 :=
  andi (cmpi .sge (broadcastInDim S4x16x32 ![0, 1, 2] bcast_S4x1x32_S4x16x32_0_1_2 cols) (broadcastInDim S4x16x32 ![0, 1, 2] bcast_S4x16x1_S4x16x32_0_1_2 (minsi (broadcastInDim S4x16x1 ![] bcast_S_S4x16x1 (id (constantI S_ 32 48#32))) (maxsi (broadcastInDim S4x16x1 ![] bcast_S_S4x16x1 (id (constantI S_ 32 0#32))) (subi qcols (broadcastInDim S4x16x1 ![] bcast_S_S4x16x1 (constantI S_ 32 8#32))))))) (cmpi .slt (broadcastInDim S4x16x32 ![0, 1, 2] bcast_S4x1x32_S4x16x32_0_1_2 cols) (broadcastInDim S4x16x32 ![0, 1, 2] bcast_S4x16x1_S4x16x32_0_1_2 (addi (minsi (broadcastInDim S4x16x1 ![] bcast_S_S4x16x1 (id (constantI S_ 32 48#32))) (maxsi (broadcastInDim S4x16x1 ![] bcast_S_S4x16x1 (id (constantI S_ 32 0#32))) (subi qcols (broadcastInDim S4x16x1 ![] bcast_S_S4x16x1 (constantI S_ 32 8#32))))) (broadcastInDim S4x16x1 ![] bcast_S_S4x16x1 (constantI S_ 32 16#32)))))

/-- The relative columns. -/
def dcs : IVec S4x16x32 32 :=
  minsi (broadcastInDim S4x16x32 ![] bcast_S_S4x16x32 (id (constantI S_ 32 30#32))) (maxsi (broadcastInDim S4x16x32 ![] bcast_S_S4x16x32 (id (constantI S_ 32 0#32))) (subi (addi (subi (broadcastInDim S4x16x32 ![0, 1, 2] bcast_S4x1x32_S4x16x32_0_1_2 cols) (broadcastInDim S4x16x32 ![0, 1, 2] bcast_S4x16x1_S4x16x32_0_1_2 qcols)) (broadcastInDim S4x16x32 ![] bcast_S_S4x16x32 (constantI S_ 32 16#32))) (broadcastInDim S4x16x32 ![] bcast_S_S4x16x32 (constantI S_ 32 1#32))))

/-- The relative column of a key, among all. -/
def pickCol : FVec Ideal S4x16x32x31 .f32 :=
  uitofp .f32 (cmpi .eq (broadcastInDim S4x16x32x31 ![0, 1, 2, 3] bcast_S4x16x32x1_S4x16x32x31_0_1_2_3 (broadcastInDim S4x16x32x1 ![0, 1, 2] bcast_S4x16x32_S4x16x32x1_0_1_2 dcs)) (broadcastInDim S4x16x32x31 ![0, 1, 2, 3] bcast_S1x1x1x31_S4x16x32x31_0_1_2_3 (broadcastInDim S1x1x1x31 ![3] bcast_S31_S1x1x1x31_3 (iotaInDim S31 32 0))))

/-- The relative row of a key, among all. -/
def pickRow : FVec Ideal S8x16x15 .f32 :=
  uitofp .f32 (cmpi .eq (broadcastInDim S8x16x15 ![0, 1, 2] bcast_S8x16x1_S8x16x15_0_1_2 (broadcastInDim S8x16x1 ![0, 1] bcast_S8x16_S8x16x1_0_1 drs)) (broadcastInDim S8x16x15 ![0, 1, 2] bcast_S1x1x15_S8x16x15_0_1_2 (broadcastInDim S1x1x15 ![2] bcast_S15_S1x1x15_2 (iotaInDim S15 32 0))))

/-- The biases by relative column. -/
def byCol (p : FVec Ideal S16x15x31 .f32) : FVec Ideal S16x15x4x16x32 .f32 :=
  Host.reduceAdd (mulf (broadcastInDim S16x15x4x16x32x31 ![0, 1, 2, 3, 4, 5] bcast_S16x15x1x1x1x31_S16x15x4x16x32x31_0_1_2_3_4_5 (broadcastInDim S16x15x1x1x1x31 ![0, 1, 5] bcast_S16x15x31_S16x15x1x1x1x31_0_1_5 p)) (broadcastInDim S16x15x4x16x32x31 ![0, 1, 2, 3, 4, 5] bcast_S1x1x4x16x32x31_S16x15x4x16x32x31_0_1_2_3_4_5 (broadcastInDim S1x1x4x16x32x31 ![2, 3, 4, 5] bcast_S4x16x32x31_S1x1x4x16x32x31_2_3_4_5 pickCol))) (constant S_ .f32 0x00000000#32) reducesTo_S16x15x4x16x32x31_S16x15x4x16x32_d5 h_S_

/-- The biases by relative row too. -/
def byRow (u : FVec Ideal S16x15x4x16x32 .f32) : FVec Ideal S4x16x8x16x16x32 .f32 :=
  Host.reduceAdd (mulf (broadcastInDim S4x16x8x16x16x32x15 ![0, 1, 2, 3, 4, 5, 6] bcast_S4x16x1x16x1x32x15_S4x16x8x16x16x32x15_0_1_2_3_4_5_6 (broadcastInDim S4x16x1x16x1x32x15 ![0, 1, 3, 5, 6] bcast_S4x16x16x32x15_S4x16x1x16x1x32x15_0_1_3_5_6 (transpose S4x16x16x32x15 [2, 0, 3, 4, 1] u transposes_S16x15x4x16x32_S4x16x16x32x15_2_0_3_4_1))) (broadcastInDim S4x16x8x16x16x32x15 ![0, 1, 2, 3, 4, 5, 6] bcast_S1x1x8x1x16x1x15_S4x16x8x16x16x32x15_0_1_2_3_4_5_6 (broadcastInDim S1x1x8x1x16x1x15 ![2, 4, 6] bcast_S8x16x15_S1x1x8x1x16x1x15_2_4_6 pickRow))) (constant S_ .f32 0x00000000#32) reducesTo_S4x16x8x16x16x32x15_S4x16x8x16x16x32_d6 h_S_

/-- The keys in the window. -/
def ok : IVec S4x3x1x8x16x16x32 1 :=
  andi (broadcastInDim S4x3x1x8x16x16x32 ![0, 1, 2, 3, 4, 5, 6] bcast_S1x3x1x8x1x16x1_S4x3x1x8x16x16x32_0_1_2_3_4_5_6 (broadcastInDim S1x3x1x8x1x16x1 ![1, 3, 5] bcast_S3x8x16_S1x3x1x8x1x16x1_1_3_5 rowOk)) (broadcastInDim S4x3x1x8x16x16x32 ![0, 1, 2, 3, 4, 5, 6] bcast_S4x1x1x1x16x1x32_S4x3x1x8x16x16x32_0_1_2_3_4_5_6 (broadcastInDim S4x1x1x1x16x1x32 ![0, 4, 6] bcast_S4x16x32_S4x1x1x1x16x1x32_0_4_6 colOk))

/-- The biases where they count, the mask elsewhere. -/
def masked (u : FVec Ideal S4x16x8x16x16x32 .f32) (z : FVec Ideal S_ .f32) : FVec Ideal S4x3x16x8x16x16x32 .f32 :=
  select (broadcastInDim S4x3x16x8x16x16x32 ![0, 1, 2, 3, 4, 5, 6] bcast_S4x3x1x8x16x16x32_S4x3x16x8x16x16x32_0_1_2_3_4_5_6 ok) (broadcastInDim S4x3x16x8x16x16x32 ![0, 1, 2, 3, 4, 5, 6] bcast_S4x1x16x8x16x16x32_S4x3x16x8x16x16x32_0_1_2_3_4_5_6 (broadcastInDim S4x1x16x8x16x16x32 ![0, 2, 3, 4, 5, 6] bcast_S4x16x8x16x16x32_S4x1x16x8x16x16x32_0_2_3_4_5_6 u)) (broadcastInDim S4x3x16x8x16x16x32 ![] bcast_S_S4x3x16x8x16x16x32 z)

/-- The table. -/
def table (p : FVec Ideal S16x15x31 .f32) (z : FVec Ideal S_ .f32) : FVec Ideal S4x3x8x256x512 .f32 :=
  shapeCast _ (masked (byRow (byCol p)) z) shapeCasts_S4x3x16x8x16x16x32_S4x3x8x256x512

/-- The first key row of the window, in the block of sixteen key rows, by kind of row block. -/
def first (kind rl : ℕ) : ℕ := if kind = 0 then max rl 4 else if kind = 1 then rl else min rl 4
/-- A key row lies in the window. -/
def rowIn (kind rl kl : ℕ) : Prop := first kind rl ≤ kl ∧ kl < first kind rl + 8
instance (kind rl kl : ℕ) : Decidable (rowIn kind rl kl) := inferInstanceAs (Decidable (_ ∧ _))
/-- The relative row. -/
def rowRel (rl kl : ℕ) : ℕ := min 14 (kl + 3 - rl)
theorem rowRel_lt (rl kl : ℕ) : rowRel rl kl < 15 := lt_of_le_of_lt (min_le_left _ _) (by norm_num)

theorem rowOk_at : ∀ (a : Fin 3) (r : Fin 8) (k : Fin 16), rowOk (ix3 a r k) = if rowIn a.val r.val k.val then 1#1 else 0#1 := by decide +kernel
theorem drs_at : ∀ (r : Fin 8) (k : Fin 16), drs (ix2 r k) = BitVec.ofNat 32 (rowRel r.val k.val) := by decide +kernel
theorem colOk_at : ∀ (n : Fin 4) (q : Fin 16) (k : Fin 32), colOk (ix3 n q k) = if colIn n.val q.val k.val then 1#1 else 0#1 := by decide +kernel
theorem dcs_at : ∀ (n : Fin 4) (q : Fin 16) (k : Fin 32), dcs (ix3 n q k) = BitVec.ofNat 32 (colRel n.val q.val k.val) := by decide +kernel

/-- A comparison of small numbers, as a float. -/
theorem eq_float (a b : Fin 31) :
    (FloatOps.uitofp (F := Ideal) (w := 1) .f32 (IntOp.cmpi .eq (BitVec.ofNat 32 a.val) (BitVec.ofNat 32 b.val)) : EReal) = if a = b then 1 else 0 := by
  have h : ∀ a b : Fin 31, IntOp.cmpi .eq (BitVec.ofNat 32 a.val) (BitVec.ofNat 32 b.val) = if a = b then 1#1 else 0#1 := by decide +kernel
  rw [h]
  split <;> simp [FloatOps.uitofp]

theorem pickCol_at (n : Fin 4) (q : Fin 16) (k : Fin 32) (x : Fin 31) :
    pickCol (ix4 n q k x) = if (⟨colRel n.val q.val k.val, colRel_lt _ _ _⟩ : Fin 31) = x then 1 else 0 := by
  pointwise [pickCol]
  rw [dcs_at]
  exact eq_float ⟨colRel n.val q.val k.val, colRel_lt _ _ _⟩ x

theorem pickRow_at (r : Fin 8) (k : Fin 16) (x : Fin 15) :
    pickRow (ix3 r k x) = if (⟨rowRel r.val k.val, rowRel_lt _ _⟩ : Fin 15) = x then 1 else 0 := by
  pointwise [pickRow]
  rw [drs_at]
  refine (eq_float ⟨rowRel r.val k.val, lt_trans (rowRel_lt _ _) (by norm_num)⟩ ⟨x.val, by omega⟩).trans ?_
  simp only [Fin.ext_iff]

/-- What a sum over the last axis reads. -/
theorem col_fiber (h : Fin 16) (r : Fin 15) (n : Fin 4) (q : Fin 16) (k : Fin 32) (i : S16x15x4x16x32x31.Idx) :
    reducesTo_S16x15x4x16x32x31_S16x15x4x16x32_d5.drop i = ix5 h r n q k ↔ ∃ x : Fin 31, ix6 h r n q k x = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨x, rfl⟩
    funext a; apply Fin.ext
    match a with
    | ⟨0, _⟩ => rfl
    | ⟨1, _⟩ => rfl
    | ⟨2, _⟩ => rfl
    | ⟨3, _⟩ => rfl
    | ⟨4, _⟩ => rfl

theorem row_fiber (n : Fin 4) (h : Fin 16) (r : Fin 8) (q : Fin 16) (l : Fin 16) (k : Fin 32) (i : S4x16x8x16x16x32x15.Idx) :
    reducesTo_S4x16x8x16x16x32x15_S4x16x8x16x16x32_d6.drop i = ix6 n h r q l k ↔ ∃ x : Fin 15, ix7 n h r q l k x = i := by
  constructor
  · intro e
    refine ⟨i 6, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => exact (congrArg Fin.val (congrFun e 5)).symm
    | ⟨6, _⟩ => rfl
  · rintro ⟨x, rfl⟩
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl

/-- A sum that picks one of its terms. -/
theorem sum_pick {n : ℕ} (f g : Fin n → EReal) (a : Fin n) (hg : ∀ x, g x = if a = x then 1 else 0) : ∑ x, f x * g x = f a := by
  rw [Finset.sum_eq_single a]
  · rw [hg, if_pos rfl, mul_one]
  · intro b _ hb
    rw [hg, if_neg (Ne.symm hb), mul_zero]
  · intro h; exact absurd (Finset.mem_univ _) h

theorem byCol_at (p : FVec Ideal S16x15x31 .f32) (h : Fin 16) (r : Fin 15) (n : Fin 4) (q : Fin 16) (k : Fin 32) :
    byCol p (ix5 h r n q k) = p (ix3 h r ⟨colRel n.val q.val k.val, colRel_lt _ _ _⟩) := by
  have e : byCol p (ix5 h r n q k) = ∑ x : Fin 31, p (ix3 h r x) * pickCol (ix4 n q k x) := by
    unfold byCol
    refine Eq.trans (b := Ideal.hostReduceAdd reducesTo_S16x15x4x16x32x31_S16x15x4x16x32_d5 _ (Ideal.ofBits .f32 0x00000000#32) (ix5 h r n q k)) rfl ?_
    unfold Ideal.hostReduceAdd
    rw [Finset.sum_filter_eq_sum_of_fiber _ (fun x : Fin 31 => ix6 h r n q k x) (fun _ _ e => congrFun e 5) (col_fiber h r n q k) _]
    rw [show Ideal.ofBits .f32 0x00000000#32 = (0 : EReal) by simp [Ideal.ofBits, Ideal.ieee], zero_add]
    refine Finset.sum_congr rfl fun x _ => ?_
    pointwise
  rw [e]
  exact sum_pick _ _ _ fun x => pickCol_at n q k x

theorem byRow_at (u : FVec Ideal S16x15x4x16x32 .f32) (n : Fin 4) (h : Fin 16) (r : Fin 8) (q : Fin 16) (l : Fin 16) (k : Fin 32) :
    byRow u (ix6 n h r q l k) = u (ix5 h ⟨rowRel r.val l.val, rowRel_lt _ _⟩ n q k) := by
  have e : byRow u (ix6 n h r q l k) = ∑ x : Fin 15, u (ix5 h x n q k) * pickRow (ix3 r l x) := by
    unfold byRow
    refine Eq.trans (b := Ideal.hostReduceAdd reducesTo_S4x16x8x16x16x32x15_S4x16x8x16x16x32_d6 _ (Ideal.ofBits .f32 0x00000000#32) (ix6 n h r q l k)) rfl ?_
    unfold Ideal.hostReduceAdd
    rw [Finset.sum_filter_eq_sum_of_fiber _ (fun x : Fin 15 => ix7 n h r q l k x) (fun _ _ e => congrFun e 6) (row_fiber n h r q l k) _]
    rw [show Ideal.ofBits .f32 0x00000000#32 = (0 : EReal) by simp [Ideal.ofBits, Ideal.ieee], zero_add]
    refine Finset.sum_congr rfl fun x _ => ?_
    pointwise
  rw [e]
  exact sum_pick _ _ _ fun x => pickRow_at r l x

theorem ok_at (n : Fin 4) (a : Fin 3) (r : Fin 8) (q : Fin 16) (l : Fin 16) (k : Fin 32) :
    ok (ix7 n a 0 r q l k) = IntOp.andi (rowOk (ix3 a r l)) (colOk (ix3 n q k)) := by
  pointwise [ok]

theorem masked_at (u : FVec Ideal S4x16x8x16x16x32 .f32) (z : FVec Ideal S_ .f32) (n : Fin 4) (a : Fin 3) (h : Fin 16) (r : Fin 8) (q : Fin 16) (l : Fin 16) (k : Fin 32) :
    masked u z (ix7 n a h r q l k) = Scalar.select (ok (ix7 n a 0 r q l k)) (u (ix6 n h r q l k)) (z ix0) := by
  pointwise [masked]

/-- The entry of a head, a query column and a key. -/
def entry (p : FVec Ideal S16x15x31 .f32) (z : EReal) (n : Fin 4) (a : Fin 3) (h : Fin 16) (r : Fin 8) (q : Fin 16) (l : Fin 16) (k : Fin 32) : EReal :=
  if rowIn a.val r.val l.val ∧ colIn n.val q.val k.val then p (ix3 h ⟨rowRel r.val l.val, rowRel_lt _ _⟩ ⟨colRel n.val q.val k.val, colRel_lt _ _ _⟩) else z

theorem masked_entry (p : FVec Ideal S16x15x31 .f32) (z : FVec Ideal S_ .f32) (n : Fin 4) (a : Fin 3) (h : Fin 16) (r : Fin 8) (q : Fin 16) (l : Fin 16) (k : Fin 32) :
    masked (byRow (byCol p)) z (ix7 n a h r q l k) = entry p (z ix0) n a h r q l k := by
  rw [masked_at, ok_at, byRow_at, byCol_at, rowOk_at, colOk_at]
  unfold entry
  by_cases h1 : rowIn a.val r.val l.val <;> by_cases h2 : colIn n.val q.val k.val <;>
    simp only [h1, h2, if_true, if_false, and_true, and_false, true_and, false_and] <;> rfl

/-- The table at an index. -/
theorem table_at (p : FVec Ideal S16x15x31 .f32) (z : FVec Ideal S_ .f32) (n : Fin 4) (a : Fin 3) (g : Fin 8) (s : Fin 256) (j : Fin 512) :
    table p z (ix5 n a g s j)
      = entry p (z ix0) n a ⟨g.val * 2 + s.val / 128, by omega⟩ ⟨s.val / 16 % 8, by omega⟩ ⟨s.val % 16, by omega⟩ ⟨j.val / 32, by omega⟩ ⟨j.val % 32, by omega⟩ := by
  refine Eq.trans ?_ (masked_entry _ _ _ _ _ _ _ _ _)
  pointwise [table]

end Cert.NaBias

end
-- ==== Proof.NaHost.lean ====
module
public import proofs.«01_k».proof.Proof.NaBias
@[expose] public section
set_option maxRecDepth 65536
noncomputable section

/-! What the host line before the neighborhood attention leaves in the buffers the kernel reads. -/
namespace Cert.NaHost
open Idealize.ShloMosaic Idealize.ShloMosaic.TcCoe Idealize.SL.Sem
open Cert.KernelIdeal Cert.KernelIdeal.Gen Cert.NaBias
variable (W : Valuation τ sig (Elt Ideal))

/-- The columns the key blocks start at. -/
def starts : IVec S4x1x1 32 := broadcastInDim S4x1x1 ![0] bcast_S4_S4x1x1_0 (fun i => lit0 (S4.rowMajor i))
/-- The relative rows before they are clipped. -/
def rel : IVec S8x16 32 := addi (subi (broadcastInDim S8x16 ![0, 1] bcast_S1x16_S8x16_0_1 (broadcastInDim S1x16 ![1] bcast_S16_S1x16_1 (iotaInDim S16 32 0))) (broadcastInDim S8x16 ![0, 1] bcast_S8x1_S8x16_0_1 (broadcastInDim S8x1 ![0] bcast_S8_S8x1_0 (iotaInDim S8 32 0)))) (broadcastInDim S8x16 ![] bcast_S_S8x16 (constantI S_ 32 3#32))
/-- The windows' first columns before they are clipped. -/
def edge : IVec S4x16x1 32 := subi qcols (broadcastInDim S4x16x1 ![] bcast_S_S4x16x1 (constantI S_ 32 8#32))
/-- The windows' first columns. -/
def lo : IVec S4x16x1 32 := minsi (broadcastInDim S4x16x1 ![] bcast_S_S4x16x1 (id (constantI S_ 32 48#32))) (maxsi (broadcastInDim S4x16x1 ![] bcast_S_S4x16x1 (id (constantI S_ 32 0#32))) edge)
/-- The relative columns before they are clipped. -/
def far : IVec S4x16x32 32 := subi (addi (subi (broadcastInDim S4x16x32 ![0, 1, 2] bcast_S4x1x32_S4x16x32_0_1_2 NaBias.cols) (broadcastInDim S4x16x32 ![0, 1, 2] bcast_S4x16x1_S4x16x32_0_1_2 qcols)) (broadcastInDim S4x16x32 ![] bcast_S_S4x16x32 (constantI S_ 32 16#32))) (broadcastInDim S4x16x32 ![] bcast_S_S4x16x32 (constantI S_ 32 1#32))
/-- The biases, with an axis for the kinds of row block. -/
def spread (u : FVec Ideal S4x16x8x16x16x32 .f32) : FVec Ideal S4x1x16x8x16x16x32 .f32 := broadcastInDim S4x1x16x8x16x16x32 ![0, 2, 3, 4, 5, 6] bcast_S4x16x8x16x16x32_S4x1x16x8x16x16x32_0_2_3_4_5_6 u

/-- The rows a query row looks at, by kind of row block. -/
def rows0 : IVec S1x8x16 32 := (broadcastInDim S1x8x16 ![1, 2] bcast_S8x16_S1x8x16_1_2 (addi (broadcastInDim S8x16 ![0, 1] bcast_S8x1_S8x16_0_1 (maxsi (subi (broadcastInDim S8x1 ![0] bcast_S8_S8x1_0 (iotaInDim S8 32 0)) (broadcastInDim S8x1 ![] bcast_S_S8x1 (constantI S_ 32 4#32))) (broadcastInDim S8x1 ![] bcast_S_S8x1 (constantI S_ 32 0#32)))) (broadcastInDim S8x16 ![0, 1] bcast_S1x16_S8x16_0_1 (muli (broadcastInDim S1x16 ![] bcast_S_S1x16 (constantI S_ 32 0#32)) (broadcastInDim S1x16 ![1] bcast_S16_S1x16_1 (iotaInDim S16 32 0))))))
def rows1 : IVec S1x8x16 32 := (broadcastInDim S1x8x16 ![1, 2] bcast_S8x16_S1x8x16_1_2 (addi (broadcastInDim S8x16 ![0, 1] bcast_S8x1_S8x16_0_1 (subi (broadcastInDim S8x1 ![0] bcast_S8_S8x1_0 (iotaInDim S8 32 0)) (broadcastInDim S8x1 ![] bcast_S_S8x1 (constantI S_ 32 4#32)))) (broadcastInDim S8x16 ![0, 1] bcast_S1x16_S8x16_0_1 (muli (broadcastInDim S1x16 ![] bcast_S_S1x16 (constantI S_ 32 0#32)) (broadcastInDim S1x16 ![1] bcast_S16_S1x16_1 (iotaInDim S16 32 0))))))
def rows2 : IVec S1x8x16 32 := (broadcastInDim S1x8x16 ![1, 2] bcast_S8x16_S1x8x16_1_2 (addi (broadcastInDim S8x16 ![0, 1] bcast_S8x1_S8x16_0_1 (minsi (subi (broadcastInDim S8x1 ![0] bcast_S8_S8x1_0 (iotaInDim S8 32 0)) (broadcastInDim S8x1 ![] bcast_S_S8x1 (constantI S_ 32 4#32))) (broadcastInDim S8x1 ![] bcast_S_S8x1 (constantI S_ 32 0#32)))) (broadcastInDim S8x16 ![0, 1] bcast_S1x16_S8x16_0_1 (muli (broadcastInDim S1x16 ![] bcast_S_S1x16 (constantI S_ 32 0#32)) (broadcastInDim S1x16 ![1] bcast_S16_S1x16_1 (iotaInDim S16 32 0))))))

/-- The first operations in three pieces: up to the three kinds of rows, their array, and the rest. -/
theorem three : StableHlo.after (hostOps0 (F := Ideal)) W = StableHlo.after ((hostOps0 (F := Ideal)).drop 43) (StableHlo.after (((hostOps0 (F := Ideal)).drop 42).take 1) (StableHlo.after ((hostOps0 (F := Ideal)).take 42) W)) := by
  rw [← StableHlo.after_append, ← StableHlo.after_append]
  rfl
theorem four_read : StableHlo.after ((hostOps0 (F := Ideal)).take 42) W (Proc.tc.devRef main_v4) = broadcastInDim S1x16 ![1] bcast_S16_S1x16_1 (iotaInDim S16 32 0) := by
  simp only [hostOps0, List.take_succ_cons, List.take_zero]
  entry_read <;> rfl
theorem v30_read : StableHlo.after ((hostOps0 (F := Ideal)).take 42) W (Proc.tc.devRef main_v30) = rows0 := by
  simp only [hostOps0, List.take_succ_cons, List.take_zero]
  entry_read <;> rfl
theorem v31_read : StableHlo.after ((hostOps0 (F := Ideal)).take 42) W (Proc.tc.devRef main_v31) = rows1 := by
  simp only [hostOps0, List.take_succ_cons, List.take_zero]
  entry_read <;> rfl
theorem v32_read : StableHlo.after ((hostOps0 (F := Ideal)).take 42) W (Proc.tc.devRef main_v32) = rows2 := by
  simp only [hostOps0, List.take_succ_cons, List.take_zero]
  entry_read <;> rfl
theorem four_kept : StableHlo.after (((hostOps0 (F := Ideal)).drop 42).take 1) W (Proc.tc.devRef main_v4) = W (Proc.tc.devRef main_v4) := by
  simp only [hostOps0, List.drop_succ_cons, List.drop_zero, List.take_succ_cons, List.take_zero]
  entry_read <;> rfl
theorem join_read (h0 : W (Proc.tc.devRef main_v30) = rows0) (h1 : W (Proc.tc.devRef main_v31) = rows1) (h2 : W (Proc.tc.devRef main_v32) = rows2) :
    StableHlo.after (((hostOps0 (F := Ideal)).drop 42).take 1) W (Proc.tc.devRef main_v33) = NaBias.rows := by
  have e : StableHlo.after (((hostOps0 (F := Ideal)).drop 42).take 1) W (Proc.tc.devRef main_v33)
      = concatenate S3x8x16 0 [⟨S1x8x16, (W (Proc.tc.devRef main_v30) : IVec S1x8x16 32)⟩, ⟨S1x8x16, (W (Proc.tc.devRef main_v31) : IVec S1x8x16 32)⟩, ⟨S1x8x16, (W (Proc.tc.devRef main_v32) : IVec S1x8x16 32)⟩] concatenates_S1x8x16_S1x8x16_S1x8x16_S3x8x16_d0 := by
    rfl
  rw [e, h0, h1, h2]
  rfl
theorem ok_rows (h1 : W (Proc.tc.devRef main_v4) = broadcastInDim S1x16 ![1] bcast_S16_S1x16_1 (iotaInDim S16 32 0)) (h2 : W (Proc.tc.devRef main_v33) = NaBias.rows) : StableHlo.after ((hostOps0 (F := Ideal)).drop 43) W (Proc.tc.devRef main_v44) = rowOk := by
  simp only [hostOps0, List.drop_succ_cons, List.drop_zero]
  entry_read
  rw [h1, h2]
  rfl
theorem rows_read : StableHlo.after (hostOps0 (F := Ideal)) W (Proc.tc.devRef main_v44) = rowOk := by
  rw [three]
  exact ok_rows _ ((four_kept _).trans (four_read W)) (join_read _ (v30_read W) (v31_read W) (v32_read W))

theorem starts_read  : StableHlo.after (hostOps0 (F := Ideal)) W (Proc.tc.devRef main_v0) = starts := by
  entry_read
  rfl

theorem rel_read  : StableHlo.after (hostOps0 (F := Ideal)) W (Proc.tc.devRef main_v49) = rel := by
  entry_read
  rfl

theorem zero_read  : StableHlo.after (hostOps0 (F := Ideal)) W (Proc.tc.devRef main_c_11) = constantI S_ 32 0#32 := by
  entry_read
  rfl

theorem top_read  : StableHlo.after (hostOps0 (F := Ideal)) W (Proc.tc.devRef main_c_12) = constantI S_ 32 14#32 := by
  entry_read
  rfl

theorem clip_read (h1 : W (Proc.tc.devRef main_v49) = rel) (h2 : W (Proc.tc.devRef main_c_11) = constantI S_ 32 0#32) (h3 : W (Proc.tc.devRef main_c_12) = constantI S_ 32 14#32) : StableHlo.after (hostOps0_1 (F := Ideal)) W (Proc.tc.devRef main_v50) = NaBias.drs := by
  entry_read
  rw [h1, h2, h3]
  rfl

theorem queries_read  : StableHlo.after (hostOps0_2 (F := Ideal)) W (Proc.tc.devRef main_v59) = qcols := by
  entry_read
  rfl

theorem cols_read (h1 : W (Proc.tc.devRef main_v0) = starts) : StableHlo.after (hostOps0_2 (F := Ideal)) W (Proc.tc.devRef main_v64) = NaBias.cols := by
  entry_read
  rw [h1]
  rfl

theorem edge_read  : StableHlo.after (hostOps0_2 (F := Ideal)) W (Proc.tc.devRef main_v66) = edge := by
  entry_read
  rfl

theorem zero_read'  : StableHlo.after (hostOps0_2 (F := Ideal)) W (Proc.tc.devRef main_c_15) = constantI S_ 32 0#32 := by
  entry_read
  rfl

theorem top_read'  : StableHlo.after (hostOps0_2 (F := Ideal)) W (Proc.tc.devRef main_c_16) = constantI S_ 32 48#32 := by
  entry_read
  rfl

theorem lo_read (h1 : W (Proc.tc.devRef main_v66) = edge) (h2 : W (Proc.tc.devRef main_c_15) = constantI S_ 32 0#32) (h3 : W (Proc.tc.devRef main_c_16) = constantI S_ 32 48#32) : StableHlo.after (hostOps0_3 (F := Ideal)) W (Proc.tc.devRef main_v67) = lo := by
  entry_read
  rw [h1, h2, h3]
  rfl

theorem ok_read (h1 : W (Proc.tc.devRef main_v64) = NaBias.cols) (h2 : W (Proc.tc.devRef main_v67) = lo) : StableHlo.after (hostOps0_4 (F := Ideal)) W (Proc.tc.devRef main_v76) = NaBias.colOk := by
  entry_read
  rw [h1, h2]
  rfl

theorem far_read (h1 : W (Proc.tc.devRef main_v64) = NaBias.cols) (h2 : W (Proc.tc.devRef main_v59) = qcols) : StableHlo.after (hostOps0_4 (F := Ideal)) W (Proc.tc.devRef main_v83) = far := by
  entry_read
  rw [h1, h2]
  rfl

theorem zero_read''  : StableHlo.after (hostOps0_4 (F := Ideal)) W (Proc.tc.devRef main_c_20) = constantI S_ 32 0#32 := by
  entry_read
  rfl

theorem top_read''  : StableHlo.after (hostOps0_4 (F := Ideal)) W (Proc.tc.devRef main_c_21) = constantI S_ 32 30#32 := by
  entry_read
  rfl

theorem clip_read' (h1 : W (Proc.tc.devRef main_v83) = far) (h2 : W (Proc.tc.devRef main_c_20) = constantI S_ 32 0#32) (h3 : W (Proc.tc.devRef main_c_21) = constantI S_ 32 30#32) : StableHlo.after (hostOps0_5 (F := Ideal)) W (Proc.tc.devRef main_v84) = NaBias.dcs := by
  entry_read
  rw [h1, h2, h3]
  rfl

theorem both_read (h1 : W (Proc.tc.devRef main_v44) = rowOk) (h2 : W (Proc.tc.devRef main_v76) = NaBias.colOk) : StableHlo.after (hostOps0_6 (F := Ideal)) W (Proc.tc.devRef main_v116) = NaBias.ok := by
  entry_read
  rw [h1, h2]
  rfl

theorem bias_read (h1 : W (Proc.tc.devRef main_v84) = NaBias.dcs) (h2 : W (Proc.tc.devRef main_v50) = NaBias.drs) : StableHlo.after (hostOps0_6 (F := Ideal)) W (Proc.tc.devRef main_v117) = spread (byRow (byCol (W (Proc.tc.devRef main_arg3)))) := by
  entry_read
  rw [h1, h2]
  rfl

theorem where_read (u : FVec Ideal S4x16x8x16x16x32 .f32) (h1 : W (Proc.tc.devRef main_v116) = NaBias.ok) (h2 : W (Proc.tc.devRef main_v117) = spread u) : StableHlo.after (hostOps0_7 (F := Ideal)) W (Proc.tc.devRef main_v118) = masked u (W (Proc.tc.devRef main_arg4)) := by
  entry_read
  rw [h1, h2]
  rfl

theorem v119_read  : StableHlo.after (hostOps0_8 (F := Ideal)) W (Proc.tc.devRef main_v119) = shapeCast _ (W (Proc.tc.devRef main_v118) : FVec Ideal S4x3x16x8x16x16x32 .f32) shapeCasts_S4x3x16x8x16x16x32_S4x3x8x256x512 := by
  entry_read
  rfl

theorem v120_read  : StableHlo.after (hostOps0_8 (F := Ideal)) W (Proc.tc.devRef main_v120) = shapeCast _ (W (Proc.tc.devRef main_arg0) : FVec Ideal S4x8192x1024 .bf16) shapeCasts_S4x8192x1024_S4x128x4x16x1024 := by
  entry_read
  rfl

theorem v121_read  : StableHlo.after (hostOps0_8 (F := Ideal)) W (Proc.tc.devRef main_v121) = shapeCast _ (W (Proc.tc.devRef main_arg1) : FVec Ideal S4x128x4x32x1024 .bf16) shapeCasts_S4x128x4x32x1024_S4x32x4x4x32x1024 := by
  entry_read
  rfl

theorem v122_read  : StableHlo.after (hostOps0_8 (F := Ideal)) W (Proc.tc.devRef main_v122) = shapeCast _ (W (Proc.tc.devRef main_arg1) : FVec Ideal S4x128x4x32x1024 .bf16) shapeCasts_S4x128x4x32x1024_S4x16x8x4x32x1024 := by
  entry_read
  rfl

theorem v123_read  : StableHlo.after (hostOps0_8 (F := Ideal)) W (Proc.tc.devRef main_v123) = shapeCast _ (W (Proc.tc.devRef main_arg1) : FVec Ideal S4x128x4x32x1024 .bf16) shapeCasts_S4x128x4x32x1024_S4x32x4x4x32x1024 := by
  entry_read
  rfl

theorem v124_read  : StableHlo.after (hostOps0_8 (F := Ideal)) W (Proc.tc.devRef main_v124) = shapeCast _ (W (Proc.tc.devRef main_arg2) : FVec Ideal S4x128x4x32x1024 .bf16) shapeCasts_S4x128x4x32x1024_S4x32x4x4x32x1024 := by
  entry_read
  rfl

theorem v125_read  : StableHlo.after (hostOps0_8 (F := Ideal)) W (Proc.tc.devRef main_v125) = shapeCast _ (W (Proc.tc.devRef main_arg2) : FVec Ideal S4x128x4x32x1024 .bf16) shapeCasts_S4x128x4x32x1024_S4x16x8x4x32x1024 := by
  entry_read
  rfl

theorem v126_read  : StableHlo.after (hostOps0_8 (F := Ideal)) W (Proc.tc.devRef main_v126) = shapeCast _ (W (Proc.tc.devRef main_arg2) : FVec Ideal S4x128x4x32x1024 .bf16) shapeCasts_S4x128x4x32x1024_S4x32x4x4x32x1024 := by
  entry_read
  rfl

theorem v44_kept_1 : StableHlo.after (hostOps0_1 (F := Ideal)) W (Proc.tc.devRef main_v44) = W (Proc.tc.devRef main_v44) := by
  entry_read <;> rfl

theorem v44_kept_2 : StableHlo.after (hostOps0_2 (F := Ideal)) W (Proc.tc.devRef main_v44) = W (Proc.tc.devRef main_v44) := by
  entry_read <;> rfl

theorem v44_kept_3 : StableHlo.after (hostOps0_3 (F := Ideal)) W (Proc.tc.devRef main_v44) = W (Proc.tc.devRef main_v44) := by
  entry_read <;> rfl

theorem v44_kept_4 : StableHlo.after (hostOps0_4 (F := Ideal)) W (Proc.tc.devRef main_v44) = W (Proc.tc.devRef main_v44) := by
  entry_read <;> rfl

theorem v44_kept_5 : StableHlo.after (hostOps0_5 (F := Ideal)) W (Proc.tc.devRef main_v44) = W (Proc.tc.devRef main_v44) := by
  entry_read <;> rfl

theorem v0_kept_1 : StableHlo.after (hostOps0_1 (F := Ideal)) W (Proc.tc.devRef main_v0) = W (Proc.tc.devRef main_v0) := by
  entry_read <;> rfl

theorem v50_kept_2 : StableHlo.after (hostOps0_2 (F := Ideal)) W (Proc.tc.devRef main_v50) = W (Proc.tc.devRef main_v50) := by
  entry_read <;> rfl

theorem v50_kept_3 : StableHlo.after (hostOps0_3 (F := Ideal)) W (Proc.tc.devRef main_v50) = W (Proc.tc.devRef main_v50) := by
  entry_read <;> rfl

theorem v50_kept_4 : StableHlo.after (hostOps0_4 (F := Ideal)) W (Proc.tc.devRef main_v50) = W (Proc.tc.devRef main_v50) := by
  entry_read <;> rfl

theorem v50_kept_5 : StableHlo.after (hostOps0_5 (F := Ideal)) W (Proc.tc.devRef main_v50) = W (Proc.tc.devRef main_v50) := by
  entry_read <;> rfl

theorem v59_kept_3 : StableHlo.after (hostOps0_3 (F := Ideal)) W (Proc.tc.devRef main_v59) = W (Proc.tc.devRef main_v59) := by
  entry_read <;> rfl

theorem v64_kept_3 : StableHlo.after (hostOps0_3 (F := Ideal)) W (Proc.tc.devRef main_v64) = W (Proc.tc.devRef main_v64) := by
  entry_read <;> rfl

theorem v76_kept_5 : StableHlo.after (hostOps0_5 (F := Ideal)) W (Proc.tc.devRef main_v76) = W (Proc.tc.devRef main_v76) := by
  entry_read <;> rfl

theorem arg0_kept_0 : StableHlo.after (hostOps0 (F := Ideal)) W (Proc.tc.devRef main_arg0) = W (Proc.tc.devRef main_arg0) := by
  entry_read <;> rfl

theorem arg0_kept_1 : StableHlo.after (hostOps0_1 (F := Ideal)) W (Proc.tc.devRef main_arg0) = W (Proc.tc.devRef main_arg0) := by
  entry_read <;> rfl

theorem arg0_kept_2 : StableHlo.after (hostOps0_2 (F := Ideal)) W (Proc.tc.devRef main_arg0) = W (Proc.tc.devRef main_arg0) := by
  entry_read <;> rfl

theorem arg0_kept_3 : StableHlo.after (hostOps0_3 (F := Ideal)) W (Proc.tc.devRef main_arg0) = W (Proc.tc.devRef main_arg0) := by
  entry_read <;> rfl

theorem arg0_kept_4 : StableHlo.after (hostOps0_4 (F := Ideal)) W (Proc.tc.devRef main_arg0) = W (Proc.tc.devRef main_arg0) := by
  entry_read <;> rfl

theorem arg0_kept_5 : StableHlo.after (hostOps0_5 (F := Ideal)) W (Proc.tc.devRef main_arg0) = W (Proc.tc.devRef main_arg0) := by
  entry_read <;> rfl

theorem arg0_kept_6 : StableHlo.after (hostOps0_6 (F := Ideal)) W (Proc.tc.devRef main_arg0) = W (Proc.tc.devRef main_arg0) := by
  entry_read <;> rfl

theorem arg0_kept_7 : StableHlo.after (hostOps0_7 (F := Ideal)) W (Proc.tc.devRef main_arg0) = W (Proc.tc.devRef main_arg0) := by
  entry_read <;> rfl

theorem arg1_kept_0 : StableHlo.after (hostOps0 (F := Ideal)) W (Proc.tc.devRef main_arg1) = W (Proc.tc.devRef main_arg1) := by
  entry_read <;> rfl

theorem arg1_kept_1 : StableHlo.after (hostOps0_1 (F := Ideal)) W (Proc.tc.devRef main_arg1) = W (Proc.tc.devRef main_arg1) := by
  entry_read <;> rfl

theorem arg1_kept_2 : StableHlo.after (hostOps0_2 (F := Ideal)) W (Proc.tc.devRef main_arg1) = W (Proc.tc.devRef main_arg1) := by
  entry_read <;> rfl

theorem arg1_kept_3 : StableHlo.after (hostOps0_3 (F := Ideal)) W (Proc.tc.devRef main_arg1) = W (Proc.tc.devRef main_arg1) := by
  entry_read <;> rfl

theorem arg1_kept_4 : StableHlo.after (hostOps0_4 (F := Ideal)) W (Proc.tc.devRef main_arg1) = W (Proc.tc.devRef main_arg1) := by
  entry_read <;> rfl

theorem arg1_kept_5 : StableHlo.after (hostOps0_5 (F := Ideal)) W (Proc.tc.devRef main_arg1) = W (Proc.tc.devRef main_arg1) := by
  entry_read <;> rfl

theorem arg1_kept_6 : StableHlo.after (hostOps0_6 (F := Ideal)) W (Proc.tc.devRef main_arg1) = W (Proc.tc.devRef main_arg1) := by
  entry_read <;> rfl

theorem arg1_kept_7 : StableHlo.after (hostOps0_7 (F := Ideal)) W (Proc.tc.devRef main_arg1) = W (Proc.tc.devRef main_arg1) := by
  entry_read <;> rfl

theorem arg2_kept_0 : StableHlo.after (hostOps0 (F := Ideal)) W (Proc.tc.devRef main_arg2) = W (Proc.tc.devRef main_arg2) := by
  entry_read <;> rfl

theorem arg2_kept_1 : StableHlo.after (hostOps0_1 (F := Ideal)) W (Proc.tc.devRef main_arg2) = W (Proc.tc.devRef main_arg2) := by
  entry_read <;> rfl

theorem arg2_kept_2 : StableHlo.after (hostOps0_2 (F := Ideal)) W (Proc.tc.devRef main_arg2) = W (Proc.tc.devRef main_arg2) := by
  entry_read <;> rfl

theorem arg2_kept_3 : StableHlo.after (hostOps0_3 (F := Ideal)) W (Proc.tc.devRef main_arg2) = W (Proc.tc.devRef main_arg2) := by
  entry_read <;> rfl

theorem arg2_kept_4 : StableHlo.after (hostOps0_4 (F := Ideal)) W (Proc.tc.devRef main_arg2) = W (Proc.tc.devRef main_arg2) := by
  entry_read <;> rfl

theorem arg2_kept_5 : StableHlo.after (hostOps0_5 (F := Ideal)) W (Proc.tc.devRef main_arg2) = W (Proc.tc.devRef main_arg2) := by
  entry_read <;> rfl

theorem arg2_kept_6 : StableHlo.after (hostOps0_6 (F := Ideal)) W (Proc.tc.devRef main_arg2) = W (Proc.tc.devRef main_arg2) := by
  entry_read <;> rfl

theorem arg2_kept_7 : StableHlo.after (hostOps0_7 (F := Ideal)) W (Proc.tc.devRef main_arg2) = W (Proc.tc.devRef main_arg2) := by
  entry_read <;> rfl

theorem arg3_kept_0 : StableHlo.after (hostOps0 (F := Ideal)) W (Proc.tc.devRef main_arg3) = W (Proc.tc.devRef main_arg3) := by
  entry_read <;> rfl

theorem arg3_kept_1 : StableHlo.after (hostOps0_1 (F := Ideal)) W (Proc.tc.devRef main_arg3) = W (Proc.tc.devRef main_arg3) := by
  entry_read <;> rfl

theorem arg3_kept_2 : StableHlo.after (hostOps0_2 (F := Ideal)) W (Proc.tc.devRef main_arg3) = W (Proc.tc.devRef main_arg3) := by
  entry_read <;> rfl

theorem arg3_kept_3 : StableHlo.after (hostOps0_3 (F := Ideal)) W (Proc.tc.devRef main_arg3) = W (Proc.tc.devRef main_arg3) := by
  entry_read <;> rfl

theorem arg3_kept_4 : StableHlo.after (hostOps0_4 (F := Ideal)) W (Proc.tc.devRef main_arg3) = W (Proc.tc.devRef main_arg3) := by
  entry_read <;> rfl

theorem arg3_kept_5 : StableHlo.after (hostOps0_5 (F := Ideal)) W (Proc.tc.devRef main_arg3) = W (Proc.tc.devRef main_arg3) := by
  entry_read <;> rfl

theorem arg4_kept_0 : StableHlo.after (hostOps0 (F := Ideal)) W (Proc.tc.devRef main_arg4) = W (Proc.tc.devRef main_arg4) := by
  entry_read <;> rfl

theorem arg4_kept_1 : StableHlo.after (hostOps0_1 (F := Ideal)) W (Proc.tc.devRef main_arg4) = W (Proc.tc.devRef main_arg4) := by
  entry_read <;> rfl

theorem arg4_kept_2 : StableHlo.after (hostOps0_2 (F := Ideal)) W (Proc.tc.devRef main_arg4) = W (Proc.tc.devRef main_arg4) := by
  entry_read <;> rfl

theorem arg4_kept_3 : StableHlo.after (hostOps0_3 (F := Ideal)) W (Proc.tc.devRef main_arg4) = W (Proc.tc.devRef main_arg4) := by
  entry_read <;> rfl

theorem arg4_kept_4 : StableHlo.after (hostOps0_4 (F := Ideal)) W (Proc.tc.devRef main_arg4) = W (Proc.tc.devRef main_arg4) := by
  entry_read <;> rfl

theorem arg4_kept_5 : StableHlo.after (hostOps0_5 (F := Ideal)) W (Proc.tc.devRef main_arg4) = W (Proc.tc.devRef main_arg4) := by
  entry_read <;> rfl

theorem arg4_kept_6 : StableHlo.after (hostOps0_6 (F := Ideal)) W (Proc.tc.devRef main_arg4) = W (Proc.tc.devRef main_arg4) := by
  entry_read <;> rfl

theorem at_v50 : (StableHlo.after (hostOps0_1 (F := Ideal)) (StableHlo.after (hostOps0 (F := Ideal)) W)) (Proc.tc.devRef main_v50) = NaBias.drs := clip_read _ (rel_read W) (zero_read W) (top_read W)

theorem at_v64 : (StableHlo.after (hostOps0_2 (F := Ideal)) (StableHlo.after (hostOps0_1 (F := Ideal)) (StableHlo.after (hostOps0 (F := Ideal)) W))) (Proc.tc.devRef main_v64) = NaBias.cols := cols_read _ ((v0_kept_1 _).trans (starts_read W))

theorem at_v67 : (StableHlo.after (hostOps0_3 (F := Ideal)) (StableHlo.after (hostOps0_2 (F := Ideal)) (StableHlo.after (hostOps0_1 (F := Ideal)) (StableHlo.after (hostOps0 (F := Ideal)) W)))) (Proc.tc.devRef main_v67) = lo := lo_read _ (edge_read _) (zero_read' _) (top_read' _)

theorem at_v76 : (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))) (Proc.tc.devRef main_v76) = NaBias.colOk := ok_read _ ((v64_kept_3 _).trans (at_v64 W)) (at_v67 W)

theorem at_v84 : (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W)))))) (Proc.tc.devRef main_v84) = NaBias.dcs := clip_read' _ (far_read _ ((v64_kept_3 _).trans (at_v64 W)) ((v59_kept_3 _).trans (queries_read _))) (zero_read'' _) (top_read'' _)

theorem at_v116 : (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))) (Proc.tc.devRef main_v116) = NaBias.ok := both_read _ ((v44_kept_5 _).trans ((v44_kept_4 _).trans ((v44_kept_3 _).trans ((v44_kept_2 _).trans ((v44_kept_1 _).trans (rows_read W)))))) ((v76_kept_5 _).trans (at_v76 W))

theorem at_arg0 : (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W)))))))) (Proc.tc.devRef main_arg0) = W (Proc.tc.devRef main_arg0) := ((arg0_kept_7 _).trans ((arg0_kept_6 _).trans ((arg0_kept_5 _).trans ((arg0_kept_4 _).trans ((arg0_kept_3 _).trans ((arg0_kept_2 _).trans ((arg0_kept_1 _).trans ((arg0_kept_0 _).trans rfl))))))))

theorem at_arg1 : (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W)))))))) (Proc.tc.devRef main_arg1) = W (Proc.tc.devRef main_arg1) := ((arg1_kept_7 _).trans ((arg1_kept_6 _).trans ((arg1_kept_5 _).trans ((arg1_kept_4 _).trans ((arg1_kept_3 _).trans ((arg1_kept_2 _).trans ((arg1_kept_1 _).trans ((arg1_kept_0 _).trans rfl))))))))

theorem at_arg2 : (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W)))))))) (Proc.tc.devRef main_arg2) = W (Proc.tc.devRef main_arg2) := ((arg2_kept_7 _).trans ((arg2_kept_6 _).trans ((arg2_kept_5 _).trans ((arg2_kept_4 _).trans ((arg2_kept_3 _).trans ((arg2_kept_2 _).trans ((arg2_kept_1 _).trans ((arg2_kept_0 _).trans rfl))))))))

theorem at_arg3 : (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W)))))) (Proc.tc.devRef main_arg3) = W (Proc.tc.devRef main_arg3) := ((arg3_kept_5 _).trans ((arg3_kept_4 _).trans ((arg3_kept_3 _).trans ((arg3_kept_2 _).trans ((arg3_kept_1 _).trans ((arg3_kept_0 _).trans rfl))))))

theorem at_arg4 : (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))) (Proc.tc.devRef main_arg4) = W (Proc.tc.devRef main_arg4) := ((arg4_kept_6 _).trans ((arg4_kept_5 _).trans ((arg4_kept_4 _).trans ((arg4_kept_3 _).trans ((arg4_kept_2 _).trans ((arg4_kept_1 _).trans ((arg4_kept_0 _).trans rfl)))))))

theorem at_v117 : (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))) (Proc.tc.devRef main_v117) = spread (byRow (byCol (W (Proc.tc.devRef main_arg3)))) :=
  (bias_read _ (at_v84 W) ((v50_kept_5 _).trans ((v50_kept_4 _).trans ((v50_kept_3 _).trans ((v50_kept_2 _).trans (at_v50 W)))))).trans (congrArg (fun p => spread (byRow (byCol p))) (at_arg3 W))

theorem at_v118 : (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W)))))))) (Proc.tc.devRef main_v118) = masked (byRow (byCol (W (Proc.tc.devRef main_arg3)))) (W (Proc.tc.devRef main_arg4)) :=
  (where_read _ _ (at_v116 W) (at_v117 W)).trans (congrArg (masked _) (at_arg4 W))

theorem at_v119 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v119) = table (W (Proc.tc.devRef main_arg3)) (W (Proc.tc.devRef main_arg4)) :=
  (v119_read _).trans (congrArg (fun u : FVec Ideal S4x3x16x8x16x16x32 .f32 => shapeCast _ u shapeCasts_S4x3x16x8x16x16x32_S4x3x8x256x512) (at_v118 W))

theorem at_v120 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v120) = shapeCast _ (W (Proc.tc.devRef main_arg0) : FVec Ideal S4x8192x1024 .bf16) shapeCasts_S4x8192x1024_S4x128x4x16x1024 :=
  (v120_read _).trans (congrArg (fun u : FVec Ideal S4x8192x1024 .bf16 => shapeCast _ u shapeCasts_S4x8192x1024_S4x128x4x16x1024) (at_arg0 W))

theorem at_v121 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v121) = shapeCast _ (W (Proc.tc.devRef main_arg1) : FVec Ideal S4x128x4x32x1024 .bf16) shapeCasts_S4x128x4x32x1024_S4x32x4x4x32x1024 :=
  (v121_read _).trans (congrArg (fun u : FVec Ideal S4x128x4x32x1024 .bf16 => shapeCast _ u shapeCasts_S4x128x4x32x1024_S4x32x4x4x32x1024) (at_arg1 W))

theorem at_v122 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v122) = shapeCast _ (W (Proc.tc.devRef main_arg1) : FVec Ideal S4x128x4x32x1024 .bf16) shapeCasts_S4x128x4x32x1024_S4x16x8x4x32x1024 :=
  (v122_read _).trans (congrArg (fun u : FVec Ideal S4x128x4x32x1024 .bf16 => shapeCast _ u shapeCasts_S4x128x4x32x1024_S4x16x8x4x32x1024) (at_arg1 W))

theorem at_v123 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v123) = shapeCast _ (W (Proc.tc.devRef main_arg1) : FVec Ideal S4x128x4x32x1024 .bf16) shapeCasts_S4x128x4x32x1024_S4x32x4x4x32x1024 :=
  (v123_read _).trans (congrArg (fun u : FVec Ideal S4x128x4x32x1024 .bf16 => shapeCast _ u shapeCasts_S4x128x4x32x1024_S4x32x4x4x32x1024) (at_arg1 W))

theorem at_v124 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v124) = shapeCast _ (W (Proc.tc.devRef main_arg2) : FVec Ideal S4x128x4x32x1024 .bf16) shapeCasts_S4x128x4x32x1024_S4x32x4x4x32x1024 :=
  (v124_read _).trans (congrArg (fun u : FVec Ideal S4x128x4x32x1024 .bf16 => shapeCast _ u shapeCasts_S4x128x4x32x1024_S4x32x4x4x32x1024) (at_arg2 W))

theorem at_v125 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v125) = shapeCast _ (W (Proc.tc.devRef main_arg2) : FVec Ideal S4x128x4x32x1024 .bf16) shapeCasts_S4x128x4x32x1024_S4x16x8x4x32x1024 :=
  (v125_read _).trans (congrArg (fun u : FVec Ideal S4x128x4x32x1024 .bf16 => shapeCast _ u shapeCasts_S4x128x4x32x1024_S4x16x8x4x32x1024) (at_arg2 W))

theorem at_v126 : (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) (Proc.tc.devRef main_v126) = shapeCast _ (W (Proc.tc.devRef main_arg2) : FVec Ideal S4x128x4x32x1024 .bf16) shapeCasts_S4x128x4x32x1024_S4x32x4x4x32x1024 :=
  (v126_read _).trans (congrArg (fun u : FVec Ideal S4x128x4x32x1024 .bf16 => shapeCast _ u shapeCasts_S4x128x4x32x1024_S4x32x4x4x32x1024) (at_arg2 W))

variable (m : (ℓ : Loc nD τ sig) → Buf (Elt Ideal) ℓ) (c : Dev nD)

/-- The host line is its nine parts, one after the other. -/
theorem line (b : DevRef τ sig) : StableHlo.after (List.flatten [hostOps0 (F := Ideal), hostOps0_1, hostOps0_2, hostOps0_3, hostOps0_4, hostOps0_5, hostOps0_6, hostOps0_7, hostOps0_8]) W b = (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) W))))))))) b := by
  simp only [List.flatten_cons, List.flatten_nil, List.append_nil, StableHlo.after_append]

theorem V_table : V m c main_v119 = table (m (c.tc.loc main_arg3)) (m (c.tc.loc main_arg4)) :=
  (line (fun b => m (c, b)) _).trans (at_v119 _)

theorem V_v120 : V m c main_v120 = shapeCast _ (m (c.tc.loc main_arg0) : FVec Ideal S4x8192x1024 .bf16) shapeCasts_S4x8192x1024_S4x128x4x16x1024 :=
  (line (fun b => m (c, b)) _).trans (at_v120 _)

theorem V_v121 : V m c main_v121 = shapeCast _ (m (c.tc.loc main_arg1) : FVec Ideal S4x128x4x32x1024 .bf16) shapeCasts_S4x128x4x32x1024_S4x32x4x4x32x1024 :=
  (line (fun b => m (c, b)) _).trans (at_v121 _)

theorem V_v122 : V m c main_v122 = shapeCast _ (m (c.tc.loc main_arg1) : FVec Ideal S4x128x4x32x1024 .bf16) shapeCasts_S4x128x4x32x1024_S4x16x8x4x32x1024 :=
  (line (fun b => m (c, b)) _).trans (at_v122 _)

theorem V_v123 : V m c main_v123 = shapeCast _ (m (c.tc.loc main_arg1) : FVec Ideal S4x128x4x32x1024 .bf16) shapeCasts_S4x128x4x32x1024_S4x32x4x4x32x1024 :=
  (line (fun b => m (c, b)) _).trans (at_v123 _)

theorem V_v124 : V m c main_v124 = shapeCast _ (m (c.tc.loc main_arg2) : FVec Ideal S4x128x4x32x1024 .bf16) shapeCasts_S4x128x4x32x1024_S4x32x4x4x32x1024 :=
  (line (fun b => m (c, b)) _).trans (at_v124 _)

theorem V_v125 : V m c main_v125 = shapeCast _ (m (c.tc.loc main_arg2) : FVec Ideal S4x128x4x32x1024 .bf16) shapeCasts_S4x128x4x32x1024_S4x16x8x4x32x1024 :=
  (line (fun b => m (c, b)) _).trans (at_v125 _)

theorem V_v126 : V m c main_v126 = shapeCast _ (m (c.tc.loc main_arg2) : FVec Ideal S4x128x4x32x1024 .bf16) shapeCasts_S4x128x4x32x1024_S4x32x4x4x32x1024 :=
  (line (fun b => m (c, b)) _).trans (at_v126 _)

end Cert.NaHost
end
-- ==== Proof.NaMatch.lean ====
/- A lane of the neighborhood attention: the kernel's attention over stacked key rows is the reference's over the window. -/
module

public import proofs.«01_k».proof.Proof.NaBlock
public import proofs.«01_k».proof.Proof.NaBias

@[expose] public section

set_option maxRecDepth 65536

noncomputable section

namespace Cert.NaMatch

open Idealize.ShloMosaic Idealize.ShloMosaic.TcCoe
open Cert.KernelIdeal Cert.KernelIdeal.Gen Cert.NaMath
open Cert.NaRef (rowStart rowStart_le keyCol colStart colIn colRel colRel_lt rowRel_lt keyRow keyIn)
open Cert.NaBias (first rowIn rowRel rowRel_lt entry)

/-- The kind of a row block: the first, one between, the last. -/
def kind (i : Fin 16) : Fin 3 := if i.val = 0 then 0 else if i.val = 15 then 2 else 1

/-- The window's first row, in the block of sixteen key rows. -/
theorem first_eq (i : Fin 16) (rl : Fin 8) : rowStart (8 * i.val + rl.val) + 4 = 8 * i.val + first (kind i).val rl.val := by
  have h : ∀ (i : Fin 16) (rl : Fin 8), rowStart (8 * i.val + rl.val) + 4 = 8 * i.val + first (kind i).val rl.val := by
    unfold rowStart first kind
    decide +kernel
  exact h i rl

theorem first_le (i : Fin 16) (rl : Fin 8) : first (kind i).val rl.val ≤ 8 := by
  have h : ∀ (i : Fin 16) (rl : Fin 8), first (kind i).val rl.val ≤ 8 := by
    unfold first kind
    decide +kernel
  exact h i rl

/-- A query column sees a key column. -/
theorem some_col : ∀ (n : Fin 4) (q : Fin 16), ∃ k : Fin 32, colIn n.val q.val k.val := by decide +kernel

/-- A sum of products that one half of the lanes counts in. -/
theorem half_sum (f g : Fin 128 → EReal) (e : ℕ) (he : e < 2) :
    (∑ x : Fin 128, (if x.val / 64 = e then f x else 0) * g x) = ∑ x : Fin 64, f ⟨e * 64 + x.val, by omega⟩ * g ⟨e * 64 + x.val, by omega⟩ := by
  have h := Fin.sum_univ_add (a := 64) (b := 64) (fun x : Fin (64 + 64) => (if x.val / 64 = e then f x else 0) * g x)
  refine h.trans ?_
  rcases (by omega : e = 0 ∨ e = 1) with rfl | rfl
  · have h1 : (∑ i : Fin 64, (if (Fin.natAdd 64 i).val / 64 = 0 then f (Fin.natAdd 64 i) else 0) * g (Fin.natAdd 64 i)) = 0 :=
      Finset.sum_eq_zero fun x _ => by
        rw [if_neg (by show ¬ (64 + x.val) / 64 = 0; omega), zero_mul]
    rw [h1, add_zero]
    refine Finset.sum_congr rfl fun x _ => ?_
    rw [if_pos (by show x.val / 64 = 0; omega)]
    have e : (Fin.castAdd 64 x : Fin 128) = ⟨0 * 64 + x.val, by omega⟩ := Fin.ext (by show x.val = 0 * 64 + x.val; omega)
    rw [e]
  · have h1 : (∑ i : Fin 64, (if (Fin.castAdd 64 i).val / 64 = 1 then f (Fin.castAdd 64 i) else 0) * g (Fin.castAdd 64 i)) = 0 :=
      Finset.sum_eq_zero fun x _ => by
        rw [if_neg (by show ¬ x.val / 64 = 1; omega), zero_mul]
    rw [h1, zero_add]
    refine Finset.sum_congr rfl fun x _ => ?_
    rw [if_pos (by show (64 + x.val) / 64 = 1; omega)]
    have e : (Fin.natAdd 64 x : Fin 128) = ⟨1 * 64 + x.val, by omega⟩ := Fin.ext (by show 64 + x.val = 1 * 64 + x.val; omega)
    rw [e]

/-- A number that is neither infinity. -/
def real (x : EReal) : Prop := ∃ r : ℝ, x = r

/-- A sum of products of numbers is a number. -/
theorem dot_real {n : ℕ} (f g : Fin n → EReal) (hf : ∀ x, real (f x)) (hg : ∀ x, real (g x)) : real (∑ x, f x * g x) := by
  choose a ha using hf
  choose b hb using hg
  refine ⟨∑ x, a x * b x, ?_⟩
  rw [← sum_coe]
  exact Finset.sum_congr rfl fun x _ => by rw [ha, hb, EReal.coe_mul]

theorem add_real {x y : EReal} (hx : real x) (hy : real y) : real (x + y) := by
  obtain ⟨a, rfl⟩ := hx
  obtain ⟨b, rfl⟩ := hy
  exact ⟨a + b, (EReal.coe_add a b).symm⟩

section
variable (q : FVec Ideal S4x8192x1024 .bf16) (k v : FVec Ideal S4x128x4x32x1024 .bf16) (p : FVec Ideal S16x15x31 .f32)

/-- A score of the reference is a number where the key column is in the window, minus infinity elsewhere. -/
theorem score_in (hq : ∀ x, real (q x)) (hk : ∀ x, real (k x)) (hp : ∀ x, real (p x)) (b : Fin 4) (r : Fin 128) (n : Fin 4) (c : Fin 16) (h : Fin 16) (j : Fin 256)
    (hc : colIn n.val c.val (j.val % 32)) : real (NaRef.score q k p b r n c h j) := by
  unfold NaRef.score
  rw [if_pos hc]
  exact add_real (dot_real _ _ (fun _ => hq _) (fun _ => hk _)) (hp _)

theorem score_out (b : Fin 4) (r : Fin 128) (n : Fin 4) (c : Fin 16) (h : Fin 16) (j : Fin 256)
    (hc : ¬ colIn n.val c.val (j.val % 32)) : NaRef.score q k p b r n c h j = ⊥ := by
  unfold NaRef.score
  rw [if_neg hc, least]

/-- A lane of a block is the reference's. -/
theorem cell_eq (Q : FVec Ideal S1x8x1x16x1024 .bf16) (ks vs : Fin 512 → Fin 1024 → EReal) (B : FVec Ideal S1x1x8x256x512 .f32)
    (b : Fin 4) (i : Fin 16) (n : Fin 4) (z : EReal) (hz : z = ⊥)
    (hQ : ∀ (rl : Fin 8) (qc : Fin 16) (l : Fin 1024), Q (ix5 0 rl 0 qc l) = q (ix3 b ⟨(8 * i.val + rl.val) * 64 + n.val * 16 + qc.val, by omega⟩ l))
    (hks : ∀ (j : Fin 512) (l : Fin 1024) (R : Fin 128), R.val + 4 = 8 * i.val + j.val / 32 → ks j l = k (ix5 b R n ⟨j.val % 32, by omega⟩ l))
    (hvs : ∀ (j : Fin 512) (l : Fin 1024) (R : Fin 128), R.val + 4 = 8 * i.val + j.val / 32 → vs j l = v (ix5 b R n ⟨j.val % 32, by omega⟩ l))
    (hB : ∀ (g : Fin 8) (s : Fin 256) (j : Fin 512), B (ix5 0 0 g s j)
      = entry p z n (kind i) ⟨g.val * 2 + s.val / 128, by omega⟩ ⟨s.val / 16 % 8, by omega⟩ ⟨s.val % 16, by omega⟩ ⟨j.val / 32, by omega⟩ ⟨j.val % 32, by omega⟩)
    (hq : ∀ x, real (q x)) (hk : ∀ x, real (k x)) (hp : ∀ x, real (p x))
    (rl : Fin 8) (qc : Fin 16) (l : Fin 1024) :
    NaBlock.cell Q ks vs B rl qc l = NaRef.out q k v p (ix5 b ⟨8 * i.val + rl.val, by omega⟩ n qc l) := by
  have hfe := first_eq i rl
  have hfl := first_le i rl
  rw [NaRef.out_at]
  unfold NaBlock.cell
  -- the bias of a stacked key row
  have hbias : ∀ j : Fin 512, B (ix5 0 0 ⟨l.val / 128, by omega⟩ ⟨l.val / 64 % 2 * 128 + (rl.val * 16 + qc.val), by omega⟩ j)
      = entry p z n (kind i) ⟨l.val / 64, by omega⟩ rl qc ⟨j.val / 32, by omega⟩ ⟨j.val % 32, by omega⟩ := by
    intro j
    rw [hB]
    have e1 : (⟨l.val / 128 * 2 + (l.val / 64 % 2 * 128 + (rl.val * 16 + qc.val)) / 128, by omega⟩ : Fin 16) = ⟨l.val / 64, by omega⟩ := Fin.ext (by
      show l.val / 128 * 2 + (l.val / 64 % 2 * 128 + (rl.val * 16 + qc.val)) / 128 = l.val / 64; omega)
    have e2 : (⟨(l.val / 64 % 2 * 128 + (rl.val * 16 + qc.val)) / 16 % 8, by omega⟩ : Fin 8) = rl := Fin.ext (by
      show (l.val / 64 % 2 * 128 + (rl.val * 16 + qc.val)) / 16 % 8 = rl.val; omega)
    have e3 : (⟨(l.val / 64 % 2 * 128 + (rl.val * 16 + qc.val)) % 16, by omega⟩ : Fin 16) = qc := Fin.ext (by
      show (l.val / 64 % 2 * 128 + (rl.val * 16 + qc.val)) % 16 = qc.val; omega)
    rw [e1, e2, e3]
  have hoff : ∀ j : Fin 512, ¬ (rowIn (kind i).val rl.val (j.val / 32) ∧ colIn n.val qc.val (j.val % 32)) → NaBlock.score Q ks B rl qc l j = ⊥ := by
    intro j hj
    unfold NaBlock.score
    rw [hbias]
    unfold entry
    rw [if_neg hj, hz, EReal.add_bot]
  refine late_window _ _ _ _ (first (kind i).val rl.val) hfl (fun j => ?_) (fun j => ?_) (fun j hj => ?_) (fun j => ?_) ?_
  · by_cases hc : colIn n.val qc.val (j.val % 32)
    · unfold NaBlock.score NaRef.score
      rw [hbias, if_pos hc]
      have hkl : (j.val + 32 * first (kind i).val rl.val) / 32 = j.val / 32 + first (kind i).val rl.val := by omega
      have hkc : (j.val + 32 * first (kind i).val rl.val) % 32 = j.val % 32 := by omega
      refine congrArg₂ (· + ·) ?_ ?_
      · refine (half_sum (fun x => Q (ix5 0 rl 0 qc ⟨l.val / 128 * 128 + x.val, by omega⟩)) (fun x => ks ⟨j.val + 32 * first (kind i).val rl.val, by omega⟩ ⟨l.val / 128 * 128 + x.val, by omega⟩) (l.val / 64 % 2) (by omega)).trans ?_
        refine Finset.sum_congr rfl fun x _ => ?_
        have ex : (⟨l.val / 128 * 128 + (l.val / 64 % 2 * 64 + x.val), by omega⟩ : Fin 1024) = ⟨l.val / 64 * 64 + x.val, by omega⟩ := Fin.ext (by
          show l.val / 128 * 128 + (l.val / 64 % 2 * 64 + x.val) = l.val / 64 * 64 + x.val; omega)
        refine congrArg₂ (· * ·) ?_ ?_
        · refine (hQ rl qc _).trans ?_
          rw [ex]
        · refine (hks _ _ (keyRow ⟨8 * i.val + rl.val, by omega⟩ j) ?_).trans ?_
          · show rowStart (8 * i.val + rl.val) + j.val / 32 + 4 = 8 * i.val + (j.val + 32 * first (kind i).val rl.val) / 32
            omega
          · have e4 : (⟨(j.val + 32 * first (kind i).val rl.val) % 32, by omega⟩ : Fin 32) = keyIn j := Fin.ext hkc
            rw [ex]
            exact congrArg (fun w => k (ix5 b (keyRow ⟨8 * i.val + rl.val, by omega⟩ j) n w ⟨l.val / 64 * 64 + x.val, by omega⟩)) e4
      · unfold entry
        have hin : rowIn (kind i).val rl.val ((j.val + 32 * first (kind i).val rl.val) / 32) ∧ colIn n.val qc.val ((j.val + 32 * first (kind i).val rl.val) % 32) := by
          rw [hkl, hkc]
          refine ⟨⟨?_, ?_⟩, hc⟩ <;> omega
        rw [if_pos hin]
        have e5 : (⟨rowRel rl.val ((j.val + 32 * first (kind i).val rl.val) / 32), NaBias.rowRel_lt _ _⟩ : Fin 15)
            = ⟨rowStart (8 * i.val + rl.val) + j.val / 32 + 7 - (8 * i.val + rl.val), NaRef.rowRel_lt ⟨8 * i.val + rl.val, by omega⟩ _ (by omega)⟩ := Fin.ext (by
          have hlt := NaRef.rowRel_lt ⟨8 * i.val + rl.val, by omega⟩ (j.val / 32) (by omega)
          have hlt' : rowStart (8 * i.val + rl.val) + j.val / 32 + 7 - (8 * i.val + rl.val) < 15 := hlt
          show min 14 ((j.val + 32 * first (kind i).val rl.val) / 32 + 3 - rl.val) = rowStart (8 * i.val + rl.val) + j.val / 32 + 7 - (8 * i.val + rl.val)
          omega)
        have e6 : (⟨colRel n.val qc.val ((j.val + 32 * first (kind i).val rl.val) % 32), colRel_lt _ _ _⟩ : Fin 31) = ⟨colRel n.val qc.val (j.val % 32), colRel_lt _ _ _⟩ := Fin.ext (by
          show colRel n.val qc.val ((j.val + 32 * first (kind i).val rl.val) % 32) = colRel n.val qc.val (j.val % 32)
          rw [hkc])
        exact congrArg₂ (fun x y => p (ix3 ⟨l.val / 64, by omega⟩ x y)) e5 e6
    · rw [score_out q k p _ _ _ _ _ _ hc]
      refine hoff _ fun h => hc ?_
      have hkc : (j.val + 32 * first (kind i).val rl.val) % 32 = j.val % 32 := by omega
      rw [← hkc]
      exact h.2
  · refine (hvs _ _ (keyRow ⟨8 * i.val + rl.val, by omega⟩ j) ?_).trans ?_
    · show rowStart (8 * i.val + rl.val) + j.val / 32 + 4 = 8 * i.val + (j.val + 32 * first (kind i).val rl.val) / 32
      omega
    · have e4 : (⟨(j.val + 32 * first (kind i).val rl.val) % 32, by omega⟩ : Fin 32) = keyIn j := Fin.ext (by
        show (j.val + 32 * first (kind i).val rl.val) % 32 = j.val % 32; omega)
      exact congrArg (fun w => v (ix5 b (keyRow ⟨8 * i.val + rl.val, by omega⟩ j) n w l)) e4
  · refine hoff j fun h => ?_
    obtain ⟨⟨h1, h2⟩, _⟩ := h
    omega
  · by_cases hc : colIn n.val qc.val (j.val % 32)
    · obtain ⟨x, hx⟩ := score_in q k p hq hk hp b ⟨8 * i.val + rl.val, by omega⟩ n qc ⟨l.val / 64, by omega⟩ j hc
      rw [hx]; exact EReal.coe_ne_top x
    · rw [score_out q k p _ _ _ _ _ _ hc]; exact bot_ne_top
  · obtain ⟨w, hw⟩ := some_col n qc
    refine ⟨⟨w.val, by omega⟩, ?_⟩
    obtain ⟨x, hx⟩ := score_in q k p hq hk hp b ⟨8 * i.val + rl.val, by omega⟩ n qc ⟨l.val / 64, by omega⟩ ⟨w.val, by omega⟩ (by
      show colIn n.val qc.val (w.val % 32)
      rw [Nat.mod_eq_of_lt w.isLt]; exact hw)
    rw [hx]; exact EReal.coe_ne_bot x

end

end Cert.NaMatch

end
-- ==== Proof.NaBlocks.lean ====
/- The blocks the neighborhood attention reads at a grid point, in terms of the arguments. -/
module

public import proofs.«01_k».proof.Proof.NaBlock
public import proofs.«01_k».proof.Proof.NaHost
public import proofs.«01_k».proof.Proof.NaMatch

@[expose] public section

set_option maxRecDepth 65536

noncomputable section

namespace Cert.NaBlocks

open Idealize.ShloMosaic Idealize.ShloMosaic.TcCoe Idealize.SL.Sem
open Cert.KernelIdeal Cert.KernelIdeal.Gen Cert.NaPoint Cert.NaMatch

variable (m : (ℓ : Loc nD τ sig) → Buf (Elt Ideal) ℓ)

/-- The windows' block indices at every grid point. -/
theorem idx0 : ∀ t : Fin cfg0.N, win0_0.index t = ![t.val / 16 % 4, t.val % 16, t.val / 64, 0, 0] := (by decide +kernel : ∀ t : Fin grid0.N, _)
theorem idx1 : ∀ t : Fin cfg0.N, win0_1.index t = ![t.val / 16 % 4, t.val % 16 * 2 - 1, 0, t.val / 64, 0, 0] := (by decide +kernel : ∀ t : Fin grid0.N, _)
theorem idx2 : ∀ t : Fin cfg0.N, win0_2.index t = ![t.val / 16 % 4, t.val % 16, 0, t.val / 64, 0, 0] := (by decide +kernel : ∀ t : Fin grid0.N, _)
theorem idx3 : ∀ t : Fin cfg0.N, win0_3.index t = ![t.val / 16 % 4, min 31 (t.val % 16 * 2 + 2), 0, t.val / 64, 0, 0] := (by decide +kernel : ∀ t : Fin grid0.N, _)
theorem idx4 : ∀ t : Fin cfg0.N, win0_4.index t = ![t.val / 16 % 4, t.val % 16 * 2 - 1, 0, t.val / 64, 0, 0] := (by decide +kernel : ∀ t : Fin grid0.N, _)
theorem idx5 : ∀ t : Fin cfg0.N, win0_5.index t = ![t.val / 16 % 4, t.val % 16, 0, t.val / 64, 0, 0] := (by decide +kernel : ∀ t : Fin grid0.N, _)
theorem idx6 : ∀ t : Fin cfg0.N, win0_6.index t = ![t.val / 16 % 4, min 31 (t.val % 16 * 2 + 2), 0, t.val / 64, 0, 0] := (by decide +kernel : ∀ t : Fin grid0.N, _)
theorem idx8 : ∀ t : Fin cfg0.N, win0_8.index t = ![t.val / 16 % 4, t.val % 16, t.val / 64, 0, 0] := (by decide +kernel : ∀ t : Fin grid0.N, _)

theorem lt_points (t : Fin cfg0.N) : t.val < 256 := t.isLt

/-- The batch, the column block and the row block of a point. -/
def bat (t : Fin cfg0.N) : Fin 4 := ⟨t.val / 16 % 4, by omega⟩
def colb (t : Fin cfg0.N) : Fin 4 := ⟨t.val / 64, by have := lt_points t; omega⟩
def rowb (t : Fin cfg0.N) : Fin 16 := ⟨t.val % 16, by omega⟩

theorem idx7 : ∀ t : Fin cfg0.N, win0_7.index t = ![(colb t).val, (kind (rowb t)).val, 0, 0, 0] := (by decide +kernel : ∀ t : Fin grid0.N, _)

/-- The flattened arguments, at an index. -/
theorem q_cast (x : FVec Ideal S4x8192x1024 .bf16) (b : Fin 4) (r : Fin 128) (n : Fin 4) (c : Fin 16) (l : Fin 1024) :
    shapeCast S4x128x4x16x1024 x shapeCasts_S4x8192x1024_S4x128x4x16x1024 (ix5 b r n c l) = x (ix3 b ⟨r.val * 64 + n.val * 16 + c.val, by omega⟩ l) := by
  pointwise
theorem half_cast (x : FVec Ideal S4x128x4x32x1024 .bf16) (b : Fin 4) (g : Fin 32) (s : Fin 4) (n : Fin 4) (c : Fin 32) (l : Fin 1024) :
    shapeCast S4x32x4x4x32x1024 x shapeCasts_S4x128x4x32x1024_S4x32x4x4x32x1024 (ix6 b g s n c l) = x (ix5 b ⟨g.val * 4 + s.val, by omega⟩ n c l) := by
  pointwise
theorem full_cast (x : FVec Ideal S4x128x4x32x1024 .bf16) (b : Fin 4) (g : Fin 16) (s : Fin 8) (n : Fin 4) (c : Fin 32) (l : Fin 1024) :
    shapeCast S4x16x8x4x32x1024 x shapeCasts_S4x128x4x32x1024_S4x16x8x4x32x1024 (ix6 b g s n c l) = x (ix5 b ⟨g.val * 8 + s.val, by omega⟩ n c l) := by
  pointwise

variable (c : Dev nD) (t : Fin cfg0.N)

theorem q_at (rl : Fin 8) (qc : Fin 16) (l : Fin 1024) :
    (show FVec Ideal S1x8x1x16x1024 .bf16 from iblk m c 0 t) (ix5 0 rl 0 qc l)
      = (show FVec Ideal S4x8192x1024 .bf16 from m ((c : Thread nD τ).loc main_arg0)) (ix3 (bat t) ⟨(8 * (rowb t).val + rl.val) * 64 + (colb t).val * 16 + qc.val, by omega⟩ l) := by
  have h : (show FVec Ideal S1x8x1x16x1024 .bf16 from iblk m c 0 t) (ix5 0 rl 0 qc l)
      = (show FVec Ideal S4x128x4x16x1024 .bf16 from V m c main_v120) (ix5 (bat t) ⟨8 * (rowb t).val + rl.val, by omega⟩ (colb t) qc l) := by
    blk_ext [iblk, idx0 t, bat, rowb, colb]
  exact h.trans ((congrFun (NaHost.V_v120 m c) _).trans (q_cast _ _ _ _ _ l))

theorem bias_block : iblk m c 7 t = View.read (Elt Ideal) (win0_7.blk t).view (V m c main_v119) := rfl

theorem bias_read (X : FVec Ideal S4x3x8x256x512 .f32) (y : S1x1x8x256x512.Idx) :
    (show FVec Ideal S1x1x8x256x512 .f32 from View.read (Elt Ideal) (win0_7.blk t).view X) y = X ((win0_7.blk t).view.emb y) := rfl

theorem bias_place (X : FVec Ideal S4x3x8x256x512 .f32) (g : Fin 8) (s : Fin 256) (j : Fin 512) :
    X ((win0_7.blk t).view.emb (ix5 0 0 g s j)) = X (ix5 (colb t) (kind (rowb t)) g s j) := by
  blk_ext [idx7 t]

theorem bias_at (T : FVec Ideal S4x3x8x256x512 .f32) (hT : V m c main_v119 = T) (g : Fin 8) (s : Fin 256) (j : Fin 512) :
    (show FVec Ideal S1x1x8x256x512 .f32 from iblk m c 7 t) (ix5 0 0 g s j) = T (ix5 (colb t) (kind (rowb t)) g s j) := by
  have h : iblk m c 7 t = View.read (Elt Ideal) (win0_7.blk t).view T := (bias_block m c t).trans (congrArg _ hT)
  rw [h]
  exact (bias_read t T _).trans (bias_place t T g s j)

theorem klo_at (s : Fin 4) (kc : Fin 32) (l : Fin 1024) :
    (show FVec Ideal S1x1x4x1x32x1024 .bf16 from iblk m c 1 t) (ix6 0 0 s 0 kc l)
      = (show FVec Ideal S4x128x4x32x1024 .bf16 from m ((c : Thread nD τ).loc main_arg1)) (ix5 (bat t) ⟨((rowb t).val * 2 - 1) * 4 + s.val, by omega⟩ (colb t) kc l) := by
  have h : (show FVec Ideal S1x1x4x1x32x1024 .bf16 from iblk m c 1 t) (ix6 0 0 s 0 kc l)
      = (show FVec Ideal S4x32x4x4x32x1024 .bf16 from V m c main_v121) (ix6 (bat t) ⟨(rowb t).val * 2 - 1, by omega⟩ s (colb t) kc l) := by
    blk_ext [iblk, idx1 t, bat, rowb, colb]
  exact h.trans ((congrFun (NaHost.V_v121 m c) _).trans (half_cast _ _ _ _ _ _ l))

theorem kmid_at (s : Fin 8) (kc : Fin 32) (l : Fin 1024) :
    (show FVec Ideal S1x1x8x1x32x1024 .bf16 from iblk m c 2 t) (ix6 0 0 s 0 kc l)
      = (show FVec Ideal S4x128x4x32x1024 .bf16 from m ((c : Thread nD τ).loc main_arg1)) (ix5 (bat t) ⟨(rowb t).val * 8 + s.val, by omega⟩ (colb t) kc l) := by
  have h : (show FVec Ideal S1x1x8x1x32x1024 .bf16 from iblk m c 2 t) (ix6 0 0 s 0 kc l)
      = (show FVec Ideal S4x16x8x4x32x1024 .bf16 from V m c main_v122) (ix6 (bat t) ⟨(rowb t).val, by omega⟩ s (colb t) kc l) := by
    blk_ext [iblk, idx2 t, bat, rowb, colb]
  exact h.trans ((congrFun (NaHost.V_v122 m c) _).trans (full_cast _ _ _ _ _ _ l))

theorem khi_at (s : Fin 4) (kc : Fin 32) (l : Fin 1024) :
    (show FVec Ideal S1x1x4x1x32x1024 .bf16 from iblk m c 3 t) (ix6 0 0 s 0 kc l)
      = (show FVec Ideal S4x128x4x32x1024 .bf16 from m ((c : Thread nD τ).loc main_arg1)) (ix5 (bat t) ⟨min 31 ((rowb t).val * 2 + 2) * 4 + s.val, by omega⟩ (colb t) kc l) := by
  have h : (show FVec Ideal S1x1x4x1x32x1024 .bf16 from iblk m c 3 t) (ix6 0 0 s 0 kc l)
      = (show FVec Ideal S4x32x4x4x32x1024 .bf16 from V m c main_v123) (ix6 (bat t) ⟨min 31 ((rowb t).val * 2 + 2), by omega⟩ s (colb t) kc l) := by
    blk_ext [iblk, idx3 t, bat, rowb, colb]
  exact h.trans ((congrFun (NaHost.V_v123 m c) _).trans (half_cast _ _ _ _ _ _ l))

theorem vlo_at (s : Fin 4) (kc : Fin 32) (l : Fin 1024) :
    (show FVec Ideal S1x1x4x1x32x1024 .bf16 from iblk m c 4 t) (ix6 0 0 s 0 kc l)
      = (show FVec Ideal S4x128x4x32x1024 .bf16 from m ((c : Thread nD τ).loc main_arg2)) (ix5 (bat t) ⟨((rowb t).val * 2 - 1) * 4 + s.val, by omega⟩ (colb t) kc l) := by
  have h : (show FVec Ideal S1x1x4x1x32x1024 .bf16 from iblk m c 4 t) (ix6 0 0 s 0 kc l)
      = (show FVec Ideal S4x32x4x4x32x1024 .bf16 from V m c main_v124) (ix6 (bat t) ⟨(rowb t).val * 2 - 1, by omega⟩ s (colb t) kc l) := by
    blk_ext [iblk, idx4 t, bat, rowb, colb]
  exact h.trans ((congrFun (NaHost.V_v124 m c) _).trans (half_cast _ _ _ _ _ _ l))

theorem vmid_at (s : Fin 8) (kc : Fin 32) (l : Fin 1024) :
    (show FVec Ideal S1x1x8x1x32x1024 .bf16 from iblk m c 5 t) (ix6 0 0 s 0 kc l)
      = (show FVec Ideal S4x128x4x32x1024 .bf16 from m ((c : Thread nD τ).loc main_arg2)) (ix5 (bat t) ⟨(rowb t).val * 8 + s.val, by omega⟩ (colb t) kc l) := by
  have h : (show FVec Ideal S1x1x8x1x32x1024 .bf16 from iblk m c 5 t) (ix6 0 0 s 0 kc l)
      = (show FVec Ideal S4x16x8x4x32x1024 .bf16 from V m c main_v125) (ix6 (bat t) ⟨(rowb t).val, by omega⟩ s (colb t) kc l) := by
    blk_ext [iblk, idx5 t, bat, rowb, colb]
  exact h.trans ((congrFun (NaHost.V_v125 m c) _).trans (full_cast _ _ _ _ _ _ l))

theorem vhi_at (s : Fin 4) (kc : Fin 32) (l : Fin 1024) :
    (show FVec Ideal S1x1x4x1x32x1024 .bf16 from iblk m c 6 t) (ix6 0 0 s 0 kc l)
      = (show FVec Ideal S4x128x4x32x1024 .bf16 from m ((c : Thread nD τ).loc main_arg2)) (ix5 (bat t) ⟨min 31 ((rowb t).val * 2 + 2) * 4 + s.val, by omega⟩ (colb t) kc l) := by
  have h : (show FVec Ideal S1x1x4x1x32x1024 .bf16 from iblk m c 6 t) (ix6 0 0 s 0 kc l)
      = (show FVec Ideal S4x32x4x4x32x1024 .bf16 from V m c main_v126) (ix6 (bat t) ⟨min 31 ((rowb t).val * 2 + 2), by omega⟩ s (colb t) kc l) := by
    blk_ext [iblk, idx6 t, bat, rowb, colb]
  exact h.trans ((congrFun (NaHost.V_v126 m c) _).trans (half_cast _ _ _ _ _ _ l))

end Cert.NaBlocks

end
-- ==== Proof.NaValue.lean ====
/- The neighborhood attention: the array the kernel leaves is the reference's. -/
module

public import proofs.«01_k».proof.Defs
public import proofs.«01_k».proof.Proof.Gen.KernelIdeal.Frame
public import proofs.«01_k».proof.Proof.Gen.ReferenceIdeal.Run
public import proofs.«01_k».proof.Proof.Gen.Pre_finite_scores
public import Idealize.ShloMosaic.Lib.Pipeline.ValueKit
public import Idealize.ShloMosaic.Lib.Pointwise
public import Idealize.ShloMosaic.Lib.Claim
public import proofs.«01_k».proof.Proof.NaBlocks
public import proofs.«01_k».proof.Proof.NaRef

@[expose] public section

set_option maxRecDepth 65536

noncomputable section

namespace Cert.NaValue

open Idealize.ShloMosaic Idealize.ShloMosaic.TcCoe Idealize.SL.Sem
open Idealize.ShloMosaic.Pipeline (Dat)
open Idealize.ShloMosaic.StableHlo (launchContents)
open Cert.KernelIdeal Cert.KernelIdeal.Gen Cert.NaPoint Cert.NaMatch Cert.NaBlocks

/-- The last rows of a stack, and the stacked rows of the values. -/
theorem high_at (x : FVec Ideal S1x1x4x1x32x1024 .bf16) (r : Fin 128) (l : Fin 1024) :
    k0_pay4 x (ix2 r l) = x (ix6 0 0 ⟨r.val / 32, by omega⟩ 0 ⟨r.val % 32, by omega⟩ l) := by
  pointwise [k0_pay4]
theorem vlow_at (x : FVec Ideal S1x1x4x1x32x1024 .bf16) (r : Fin 128) (l : Fin 1024) :
    k0_pay6 (k0_pay5 x) (ix2 r l) = x (ix6 0 0 ⟨r.val / 32, by omega⟩ 0 ⟨r.val % 32, by omega⟩ l) := by
  pointwise [k0_pay6, k0_pay5]
theorem vmid_row (x : FVec Ideal S1x1x8x1x32x1024 .bf16) (r : Fin 256) (l : Fin 1024) :
    k0_pay7 x (ix2 r l) = x (ix6 0 0 ⟨r.val / 32, by omega⟩ 0 ⟨r.val % 32, by omega⟩ l) := by
  pointwise [k0_pay7]
theorem vhigh_at (x : FVec Ideal S1x1x4x1x32x1024 .bf16) (r : Fin 128) (l : Fin 1024) :
    k0_pay8 x (ix2 r l) = x (ix6 0 0 ⟨r.val / 32, by omega⟩ 0 ⟨r.val % 32, by omega⟩ l) := by
  pointwise [k0_pay8]

/-- Three stacked blocks of an array's rows around row block `i` are its rows from four above the block on. -/
theorem stack_rows (a : FVec Ideal S4x128x4x32x1024 .bf16) (p0 : FVec Ideal S128x1024 .bf16) (p1 : FVec Ideal S256x1024 .bf16) (p2 : FVec Ideal S128x1024 .bf16)
    (b : Fin 4) (i : Fin 16) (n : Fin 4)
    (h0 : ∀ (r : Fin 128) (l : Fin 1024), p0 (ix2 r l) = a (ix5 b ⟨(i.val * 2 - 1) * 4 + r.val / 32, by omega⟩ n ⟨r.val % 32, by omega⟩ l))
    (h1 : ∀ (r : Fin 256) (l : Fin 1024), p1 (ix2 r l) = a (ix5 b ⟨i.val * 8 + r.val / 32, by omega⟩ n ⟨r.val % 32, by omega⟩ l))
    (h2 : ∀ (r : Fin 128) (l : Fin 1024), p2 (ix2 r l) = a (ix5 b ⟨min 31 (i.val * 2 + 2) * 4 + r.val / 32, by omega⟩ n ⟨r.val % 32, by omega⟩ l))
    (j : Fin 512) (l : Fin 1024) (R : Fin 128) (hR : R.val + 4 = 8 * i.val + j.val / 32) :
    stack p0 p1 p2 j l = a (ix5 b R n ⟨j.val % 32, by omega⟩ l) := by
  have e (x y : Fin 128) (u w : Fin 32) (hx : x.val = y.val) (hu : u.val = w.val) : a (ix5 b x n u l) = a (ix5 b y n w l) := by
    rw [Fin.ext hx, Fin.ext hu]
  by_cases hl : j.val < 128
  · rw [stack_low p0 p1 p2 j l ⟨j.val, hl⟩ rfl, h0]
    exact e _ _ _ _ (by show (i.val * 2 - 1) * 4 + j.val / 32 = R.val; omega) rfl
  · by_cases hm : j.val < 384
    · rw [stack_mid p0 p1 p2 j l ⟨j.val - 128, by omega⟩ (by show j.val = 128 + (j.val - 128); omega), h1]
      exact e _ _ _ _ (by show i.val * 8 + (j.val - 128) / 32 = R.val; omega) (by show (j.val - 128) % 32 = j.val % 32; omega)
    · rw [stack_high p0 p1 p2 j l ⟨j.val - 384, by omega⟩ (by show j.val = 384 + (j.val - 384); omega), h2]
      exact e _ _ _ _ (by show min 31 (i.val * 2 + 2) * 4 + (j.val - 384) / 32 = R.val; omega) (by show (j.val - 384) % 32 = j.val % 32; omega)

/-- What the precondition's comparisons say. -/
theorem real_of (x : EReal) (h : FloatOps.cmpf (F := Ideal) (φ := .f32) .olt (FloatOps.hostAbsf (F := Ideal) (φ := .f32) x) (Ideal.ofBits .f32 0x7F800000#32) = 1#1) : real x := by
  have ht : Ideal.ofBits .f32 0x7F800000#32 = (⊤ : EReal) := by simp [Ideal.ofBits, Ideal.ieee]
  rw [ht] at h
  have hlt : max x (-x) < (⊤ : EReal) := by
    by_contra hn
    have : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [this] at h
    exact absurd h (by decide)
  have h1 : x ≠ ⊤ := fun e => absurd ((le_max_left x (-x)).trans_lt hlt) (by rw [e]; exact lt_irrefl _)
  have h2 : x ≠ ⊥ := fun e => absurd ((le_max_right x (-x)).trans_lt hlt) (by rw [e, EReal.neg_bot]; exact lt_irrefl _)
  exact ⟨x.toReal, (EReal.coe_toReal h1 h2).symm⟩

theorem bot_of (x : EReal) (h : FloatOps.cmpf (F := Ideal) (φ := .f32) .oeq x (Ideal.ofBits .f32 0xFF800000#32) = 1#1) : x = ⊥ := by
  rw [NaMath.least] at h
  by_contra hn
  have : FloatOps.cmpf (F := Ideal) (φ := .f32) .oeq x (⊥ : EReal) = 0#1 := by
    show BitVec.ofBool (decide (x = (⊥ : EReal))) = 0#1
    rw [decide_eq_false hn]; rfl
  rw [this] at h
  exact absurd h (by decide)

section pre
variable (q : FVec Ideal S4x8192x1024 .bf16) (k v : FVec Ideal S4x128x4x32x1024 .bf16) (p : FVec Ideal S16x15x31 .f32) (z : FVec Ideal S_ .f32)
theorem pre_q (h : (Cert.Pre_finite_scores.fn (F := Ideal) q k v p z).1 = fun _ => 1#1) (x : S4x8192x1024.Idx) : real (q x) :=
  real_of _ (congrFun h x)
theorem pre_k (h : (Cert.Pre_finite_scores.fn (F := Ideal) q k v p z).2.1 = fun _ => 1#1) (x : S4x128x4x32x1024.Idx) : real (k x) :=
  real_of _ (congrFun h x)
theorem pre_p (h : (Cert.Pre_finite_scores.fn (F := Ideal) q k v p z).2.2.1 = fun _ => 1#1) (x : S16x15x31.Idx) : real (p x) :=
  real_of _ (congrFun h x)
theorem pre_z (h : (Cert.Pre_finite_scores.fn (F := Ideal) q k v p z).2.2.2 = fun _ => 1#1) : z ix0 = ⊥ :=
  bot_of _ (congrFun h ix0)
end pre

variable (m : (ℓ : Loc nD τ sig) → Buf (Elt Ideal) ℓ) (c : Dev nD) (t : Fin cfg0.N)

theorem keys_at (j : Fin 512) (l : Fin 1024) (R : Fin 128) (hR : R.val + 4 = 8 * (rowb t).val + j.val / 32) :
    NaBlock.keys m c t j l = (show FVec Ideal S4x128x4x32x1024 .bf16 from m ((c : Thread nD τ).loc main_arg1)) (ix5 (bat t) R (colb t) ⟨j.val % 32, by omega⟩ l) :=
  stack_rows _ _ _ _ (bat t) (rowb t) (colb t) (fun r l => (low_at _ r l).trans (klo_at m c t _ _ l)) (fun r l => (mid_at _ r l).trans (kmid_at m c t _ _ l))
    (fun r l => (high_at _ r l).trans (khi_at m c t _ _ l)) j l R hR

theorem vals_at (j : Fin 512) (l : Fin 1024) (R : Fin 128) (hR : R.val + 4 = 8 * (rowb t).val + j.val / 32) :
    NaBlock.vals m c t j l = (show FVec Ideal S4x128x4x32x1024 .bf16 from m ((c : Thread nD τ).loc main_arg2)) (ix5 (bat t) R (colb t) ⟨j.val % 32, by omega⟩ l) :=
  stack_rows _ _ _ _ (bat t) (rowb t) (colb t) (fun r l => (vlow_at _ r l).trans (vlo_at m c t _ _ l)) (fun r l => (vmid_row _ r l).trans (vmid_at m c t _ _ l))
    (fun r l => (vhigh_at _ r l).trans (vhi_at m c t _ _ l)) j l R hR

/-- What a point stores is the reference at the array index of the same place. -/
theorem point (hpre : Cert.Pre_KernelIdeal_finite_scores m) (rl : Fin 8) (qc : Fin 16) (l : Fin 1024) :
    NaBlock.cell (iblk m c 0 t) (NaBlock.keys m c t) (NaBlock.vals m c t) (iblk m c 7 t) rl qc l
      = NaRef.out (m ((c : Thread nD τ).loc main_arg0)) (m ((c : Thread nD τ).loc main_arg1)) (m ((c : Thread nD τ).loc main_arg2)) (m ((c : Thread nD τ).loc main_arg3))
        (ix5 (bat t) ⟨8 * (rowb t).val + rl.val, by omega⟩ (colb t) qc l) :=
  cell_eq _ _ _ _ _ _ _ _ (bat t) (rowb t) (colb t) _ (pre_z _ _ _ _ _ (hpre c).2.2.2) (q_at m c t) (keys_at m c t) (vals_at m c t)
    (fun g s j => (bias_at m c t _ (NaHost.V_table m c) g s j).trans (NaBias.table_at _ _ _ _ g s j))
    (pre_q _ _ _ _ _ (hpre c).1) (pre_k _ _ _ _ _ (hpre c).2.1) (pre_p _ _ _ _ _ (hpre c).2.2.1) rl qc l

/-- The result array after the run. -/
theorem final (hpre : Cert.Pre_KernelIdeal_finite_scores m) : (dats m 0 c).arrAt 8 (cfgs 0).N
    = NaRef.out (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [NaBlock.out_at]
  idx_vars y
  refine (point m c t hpre y1 y3 y4).trans (congrArg _ ?_)
  obtain rfl : y0 = 0 := Subsingleton.elim _ _
  obtain rfl : y2 = 0 := Subsingleton.elim _ _
  blk_ext [idx8 t, rowb, colb, bat]

/-- The two programs end with the same array. -/
theorem algebraic : Cert.algebraic_KernelIdeal_ReferenceIdeal_pre_finite_scores := by
  pair_intro
  · run_from Cert.KernelIdeal.Gen.run_main m g
    · exact V_main_arg0 m c
    · exact V_main_arg1 m c
    · exact V_main_arg2 m c
    · exact V_main_arg3 m c
    · exact V_main_arg4 m c
  · run_from Cert.ReferenceIdeal.Value.run m' g'
    · obtain ⟨h0, h1, h2, h3, h4⟩ := hagree c
      rw [NaRef.result, h0, h1, h2, h3]
      exact (final m c hpre).symm

end Cert.NaValue

end
-- ==== Proof.FfnPoint.lean ====
/- The experts' feed-forward part: what a grid point stores, as one sum over the hidden units. -/
module

public import proofs.«01_k».proof.Defs
public import proofs.«01_k».proof.Proof.Gen.FfnIdeal.Frame
public import proofs.«01_k».proof.Proof.Gen.FfnRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.FfnValue

open Idealize.ShloMosaic Idealize.ShloMosaic.TcCoe Idealize.SL.Sem
open Idealize.ShloMosaic.Pipeline (Dat)
open Cert.FfnIdeal Cert.FfnIdeal.Gen

/-- One hidden unit: the gate times its logistic, times the second projection. -/
def unit (x a b : Fin 1024 → EReal) : EReal :=
  (∑ k, x k * a k) * Ideal.logistic (∑ k, x k * a k) * ∑ k, x k * b k

/-- The first chunk of hidden units, at an index. -/
theorem pay2_at (x : FVec Ideal S1x512x1024 .bf16) (a b : FVec Ideal S1x1024x512 .bf16) (w : FVec Ideal S1x512x1024 .bf16)
    (r : Fin 512) (l : Fin 1024) :
    k0_pay2 (F := Ideal) x a b w (ix2 r l)
      = ∑ f : Fin 512, unit (fun k => x (ix3 0 r k)) (fun k => a (ix3 0 k f)) (fun k => b (ix3 0 k f)) * w (ix3 0 f l) := by
  pointwise [k0_pay2, k0_pay1, unit]

/-- The second chunk. -/
theorem pay3_at (x : FVec Ideal S1x512x1024 .bf16) (a b : FVec Ideal S1x1024x512 .bf16) (w : FVec Ideal S1x512x1024 .bf16)
    (r : Fin 512) (l : Fin 1024) :
    k0_pay3 (F := Ideal) x a b w (ix2 r l)
      = ∑ f : Fin 512, unit (fun k => x (ix3 0 r k)) (fun k => a (ix3 0 k f)) (fun k => b (ix3 0 k f)) * w (ix3 0 f l) := by
  pointwise [k0_pay3, k0_pay1, unit]

/-- The last two chunks added to the first two. -/
theorem pay4_at (x : FVec Ideal S1x512x1024 .bf16) (p q : FVec Ideal S512x1024 .f32) (a b : FVec Ideal S1x1024x512 .bf16)
    (w : FVec Ideal S1x512x1024 .bf16) (a' b' : FVec Ideal S1x1024x512 .bf16) (w' : FVec Ideal S1x512x1024 .bf16)
    (r : Fin 512) (l : Fin 1024) :
    k0_pay4 (F := Ideal) (k0_pay1 x) p q a b w a' b' w' (ix3 0 r l)
      = p (ix2 r l) + q (ix2 r l)
        + (∑ f : Fin 512, unit (fun k => x (ix3 0 r k)) (fun k => a (ix3 0 k f)) (fun k => b (ix3 0 k f)) * w (ix3 0 f l))
        + ∑ f : Fin 512, unit (fun k => x (ix3 0 r k)) (fun k => a' (ix3 0 k f)) (fun k => b' (ix3 0 k f)) * w' (ix3 0 f l) := by
  pointwise [k0_pay4, k0_pay1, unit]

/-- A sum over the hidden units, chunk by chunk. -/
theorem sum_chunks (f : Fin 2048 → EReal) :
    ∑ i, f i = (∑ i : Fin 512, f ⟨i, by omega⟩) + (∑ i : Fin 512, f ⟨512 + i, by omega⟩)
      + (∑ i : Fin 512, f ⟨1024 + i, by omega⟩) + ∑ i : Fin 512, f ⟨1536 + i, by omega⟩ := by
  rw [Fin.sum_univ_tiles 4 512 rfl f, Fin.sum_univ_four]
  simp

/-- What a point stores. -/
theorem out_at (x : FVec Ideal S1x512x1024 .bf16) (a b : FVec Ideal S1x1024x2048 .bf16) (w : FVec Ideal S1x2048x1024 .bf16)
    (r : Fin 512) (l : Fin 1024) :
    out0_4 (F := Ideal) x a b w (ix3 0 r l)
      = ∑ f : Fin 2048, unit (fun k => x (ix3 0 r k)) (fun k => a (ix3 0 k f)) (fun k => b (ix3 0 k f)) * w (ix3 0 f l) := by
  rw [sum_chunks]
  frame_out
  refine (pay4_at _ _ _ _ _ _ _ _ _ r l).trans ?_
  refine Ideal.add_congr (Ideal.add_congr (Ideal.add_congr ((pay2_at _ _ _ _ r l).trans ?_) ((pay3_at _ _ _ _ r l).trans ?_)) ?_) ?_
  all_goals refine Finset.sum_congr rfl fun f _ => ?_
  all_goals pointwise [unit]

end Cert.FfnValue

end
-- ==== Proof.FfnValue.lean ====
/- The experts' feed-forward part: the array the kernel leaves is the reference's. -/
module

public import proofs.«01_k».proof.Defs
public import proofs.«01_k».proof.Proof.Gen.FfnIdeal.Frame
public import proofs.«01_k».proof.Proof.Gen.FfnRefIdeal.Run
public import Idealize.ShloMosaic.Lib.Pipeline.ValueKit
public import Idealize.ShloMosaic.Lib.Pointwise
public import Idealize.ShloMosaic.Lib.Claim
public import proofs.«01_k».proof.Proof.FfnPoint

@[expose] public section

set_option maxRecDepth 16384

noncomputable section

namespace Cert.FfnValue

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

section
open Cert.FfnRefIdeal Cert.FfnRefIdeal.Gen

/-- The reference's result as a term over its four arguments. -/
def ref (x : FVec Ideal Cert.FfnRefIdeal.S16x4096x1024 .bf16) (a b : FVec Ideal Cert.FfnRefIdeal.S16x1024x2048 .f32)
    (w : FVec Ideal Cert.FfnRefIdeal.S16x2048x1024 .f32) : FVec Ideal Cert.FfnRefIdeal.S16x4096x1024 .bf16 :=
  truncf .bf16 (Host.dotGeneral Cert.FfnRefIdeal.dot_S16x4096x2048_S16x2048x1024_S16x4096x1024_2_1_1_2_0_0 none (mulf (mulf (Host.dotGeneral Cert.FfnRefIdeal.dot_S16x4096x1024_S16x1024x2048_S16x4096x2048_2_1_1_2_0_0 none (extf .f32 x Cert.FfnRefIdeal.Gen.bitsLt_bf16_f32) a) (Host.divf (broadcastInDim Cert.FfnRefIdeal.S16x4096x2048 ![] Cert.FfnRefIdeal.Gen.bcast_S_S16x4096x2048 (constant Cert.FfnRefIdeal.S_ .f32 0x3F800000#32)) (addf (broadcastInDim Cert.FfnRefIdeal.S16x4096x2048 ![] Cert.FfnRefIdeal.Gen.bcast_S_S16x4096x2048 (constant Cert.FfnRefIdeal.S_ .f32 0x3F800000#32)) (Host.exp (Host.negf (Host.dotGeneral Cert.FfnRefIdeal.dot_S16x4096x1024_S16x1024x2048_S16x4096x2048_2_1_1_2_0_0 none (extf .f32 x Cert.FfnRefIdeal.Gen.bitsLt_bf16_f32) a)))))) (Host.dotGeneral Cert.FfnRefIdeal.dot_S16x4096x1024_S16x1024x2048_S16x4096x2048_2_1_1_2_0_0 none (extf .f32 x Cert.FfnRefIdeal.Gen.bitsLt_bf16_f32) b)) w) Cert.FfnRefIdeal.Gen.bitsLt_bf16_f32

/-- The reference at an index. -/
theorem ref_at (x : FVec Ideal Cert.FfnRefIdeal.S16x4096x1024 .bf16) (a b : FVec Ideal Cert.FfnRefIdeal.S16x1024x2048 .f32)
    (w : FVec Ideal Cert.FfnRefIdeal.S16x2048x1024 .f32) (e : Fin 16) (r : Fin 4096) (l : Fin 1024) :
    ref x a b w (ix3 e r l)
      = ∑ f : Fin 2048, unit (fun k => x (ix3 e r k)) (fun k => a (ix3 e k f)) (fun k => b (ix3 e k f)) * w (ix3 e f l) := by
  pointwise [ref, unit, Ideal.logistic]

end

/-- The windows' block indices at every grid point. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0]
    ∧ win0_4.index t = ![t.val / 8, t.val % 8, 0] :=
  (by decide +kernel : ∀ t : Fin grid0.N, _)

theorem lt_points (t : Fin cfg0.N) : t.val < 128 := t.isLt

/-- The weights at the kernel's start, rounded. -/
theorem V_a (c : Dev nD) : V m c main_v0
    = (truncf .bf16 (show FVec Ideal S16x1024x2048 .f32 from m ((c : Thread nD τ).loc main_arg1)) bitsLt_bf16_f32 : FVec Ideal S16x1024x2048 .bf16) := by
  entry_read; rfl
theorem V_b (c : Dev nD) : V m c main_v1
    = (truncf .bf16 (show FVec Ideal S16x1024x2048 .f32 from m ((c : Thread nD τ).loc main_arg2)) bitsLt_bf16_f32 : FVec Ideal S16x1024x2048 .bf16) := by
  entry_read; rfl
theorem V_w (c : Dev nD) : V m c main_v2
    = (truncf .bf16 (show FVec Ideal S16x2048x1024 .f32 from m ((c : Thread nD τ).loc main_arg3)) bitsLt_bf16_f32 : FVec Ideal S16x2048x1024 .bf16) := by
  entry_read; rfl

/-- The expert and the rows of a point. -/
def expert (t : Fin cfg0.N) : Fin 16 := ⟨t.val / 8, by have := lt_points t; omega⟩
def row (t : Fin cfg0.N) (r : Fin 512) : Fin 4096 := ⟨t.val % 8 * 512 + r, by omega⟩

theorem x_at (c : Dev nD) (t : Fin cfg0.N) (r : Fin 512) (k : Fin 1024) :
    (show FVec Ideal S1x512x1024 .bf16 from iblk m c 0 t) (ix3 0 r k)
      = (show FVec Ideal S16x4096x1024 .bf16 from m ((c : Thread nD τ).loc main_arg0)) (ix3 (expert t) (row t r) k) := by
  have e : (show FVec Ideal S1x512x1024 .bf16 from iblk m c 0 t) (ix3 0 r k)
      = (show FVec Ideal S16x4096x1024 .bf16 from V m c main_arg0) (ix3 (expert t) (row t r) k) := by
    blk_ext [iblk, idx t, expert, row]
  exact e.trans (congrFun (V_main_arg0 m c) _)

theorem a_at (c : Dev nD) (t : Fin cfg0.N) (k : Fin 1024) (f : Fin 2048) :
    (show FVec Ideal S1x1024x2048 .bf16 from iblk m c 1 t) (ix3 0 k f)
      = (show FVec Ideal S16x1024x2048 .f32 from m ((c : Thread nD τ).loc main_arg1)) (ix3 (expert t) k f) := by
  have e : (show FVec Ideal S1x1024x2048 .bf16 from iblk m c 1 t) (ix3 0 k f)
      = (show FVec Ideal S16x1024x2048 .bf16 from V m c main_v0) (ix3 (expert t) k f) := by
    blk_ext [iblk, idx t, expert]
  exact e.trans (congrFun (V_a m c) _)

theorem b_at (c : Dev nD) (t : Fin cfg0.N) (k : Fin 1024) (f : Fin 2048) :
    (show FVec Ideal S1x1024x2048 .bf16 from iblk m c 2 t) (ix3 0 k f)
      = (show FVec Ideal S16x1024x2048 .f32 from m ((c : Thread nD τ).loc main_arg2)) (ix3 (expert t) k f) := by
  have e : (show FVec Ideal S1x1024x2048 .bf16 from iblk m c 2 t) (ix3 0 k f)
      = (show FVec Ideal S16x1024x2048 .bf16 from V m c main_v1) (ix3 (expert t) k f) := by
    blk_ext [iblk, idx t, expert]
  exact e.trans (congrFun (V_b m c) _)

theorem w_at (c : Dev nD) (t : Fin cfg0.N) (f : Fin 2048) (l : Fin 1024) :
    (show FVec Ideal S1x2048x1024 .bf16 from iblk m c 3 t) (ix3 0 f l)
      = (show FVec Ideal S16x2048x1024 .f32 from m ((c : Thread nD τ).loc main_arg3)) (ix3 (expert t) f l) := by
  have e : (show FVec Ideal S1x2048x1024 .bf16 from iblk m c 3 t) (ix3 0 f l)
      = (show FVec Ideal S16x2048x1024 .bf16 from V m c main_v2) (ix3 (expert t) f l) := by
    blk_ext [iblk, idx t, expert]
  exact e.trans (congrFun (V_w m c) _)

/-- What a point stores is the reference at the array index of the same place. -/
theorem point (c : Dev nD) (t : Fin cfg0.N) (r : Fin 512) (l : Fin 1024) :
    out0_4 (F := Ideal) (iblk m c 0 t) (iblk m c 1 t) (iblk m c 2 t) (iblk m c 3 t) (ix3 0 r l)
      = ref (m ((c : Thread nD τ).loc main_arg0)) (m ((c : Thread nD τ).loc main_arg1)) (m ((c : Thread nD τ).loc main_arg2))
          (m ((c : Thread nD τ).loc main_arg3)) (ix3 (expert t) (row t r) l) := by
  refine (out_at _ _ _ _ r l).trans (Eq.trans ?_ (ref_at _ _ _ _ _ _ l).symm)
  refine Finset.sum_congr rfl fun f _ => congrArg₂ (· * ·) ?_ (w_at m c t f l)
  have hx := funext fun k => x_at m c t r k
  have ha := funext fun k => a_at m c t k f
  have hb := funext fun k => b_at m c t k f
  exact congr (congrArg₂ unit hx ha) hb

/-- The result array after the run. -/
theorem final (c : Dev nD) : (dats m 0 c).arrAt 4 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  idx_vars y
  obtain rfl : y0 = 0 := Subsingleton.elim _ _
  refine (point m c t y1 y2).trans (congrArg _ ?_)
  blk_ext [idx t, expert, row]

/-- The two programs end with the same array. -/
theorem algebraic : Cert.algebraic_FfnIdeal_FfnRefIdeal := by
  pair_intro
  · run_from Cert.FfnIdeal.Gen.run_main m g
  · run_from Cert.FfnRefIdeal.Value.run m' g'
    exact (final m c).symm

end Cert.FfnValue

end
-- ==== Proof.LayerNorm.lean ====
/- The layer norm of a row of 1024 lanes, and the norm of all rows as the references write it. -/
module

public import proofs.«01_k».proof.Proof.Gen.OutLnRefIdeal.Run
public import Idealize.ShloMosaic.Lib.Pointwise

@[expose] public section

set_option maxRecDepth 16384

noncomputable section

namespace Cert.LayerNorm

open Idealize.ShloMosaic Idealize.ShloMosaic.TcCoe Idealize.SL.Sem
open Cert.OutLnRefIdeal Cert.OutLnRefIdeal.Gen

/-- The mean of a row. -/
def mean (z : Fin 1024 → EReal) : EReal := Ideal.div (∑ k : Fin 1024, z k) (Ideal.ofBits .f32 0x44800000#32)

/-- A row less its mean, over its deviation. -/
def unitRow (z : Fin 1024 → EReal) (l : Fin 1024) : EReal :=
  (z l - mean z) * Ideal.rsqrt (mean (fun k => (z k - mean z) * (z k - mean z)) + Ideal.ofBits .f32 0x3727C5AC#32)

/-- The layer norm of a row. -/
def norm (z g b : Fin 1024 → EReal) (l : Fin 1024) : EReal := unitRow z l * g l + b l

/-- The row before the norm: the scaled residual and the projected row. -/
def resid (o x : Fin 1024 → EReal) (w : Fin 1024 → Fin 1024 → EReal) (l : Fin 1024) : EReal :=
  Ideal.ofBits .f32 0x3FB504F3#32 * x l + ∑ k : Fin 1024, o k * w k l

/-- The means of all rows. -/
def means (z : FVec Ideal S4x8192x1024 .f32) : FVec Ideal S4x8192x1 .f32 :=
  Host.divf (broadcastInDim S4x8192x1 ![0, 1] bcast_S4x8192_S4x8192x1_0_1 (Host.reduceAdd z (constant S_ .f32 0x00000000#32) reducesTo_S4x8192x1024_S4x8192_d2 h_S_)) (broadcastInDim S4x8192x1 ![] bcast_S_S4x8192x1 (constant S_ .f32 0x44800000#32))

/-- All rows less their means. -/
def centred (z : FVec Ideal S4x8192x1024 .f32) : FVec Ideal S4x8192x1024 .f32 :=
  subf z (broadcastInDim S4x8192x1024 ![0, 1, 2] bcast_S4x8192x1_S4x8192x1024_0_1_2 (means z))

/-- The norm of all rows. -/
def norms (z : FVec Ideal S4x8192x1024 .f32) (g b : FVec Ideal S1024 .f32) : FVec Ideal S4x8192x1024 .f32 :=
  addf (mulf (mulf (centred z) (broadcastInDim S4x8192x1024 ![0, 1, 2] bcast_S4x8192x1_S4x8192x1024_0_1_2 (Host.rsqrt (addf (means (mulf (centred z) (centred z))) (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

/-- The norm of all rows, at an index. -/
theorem norms_at (z : FVec Ideal S4x8192x1024 .f32) (g b : FVec Ideal S1024 .f32) (a : Fin 4) (r : Fin 8192) (l : Fin 1024) :
    norms z g b (ix3 a r l) = norm (fun k => z (ix3 a r k)) (fun k => g (ix1 k)) (fun k => b (ix1 k)) l := by
  pointwise [norms, centred, means, norm, unitRow, mean]

end Cert.LayerNorm

end
-- ==== Proof.XattnPoint.lean ====
/- The memory cross-attention's block: its rows at an index, from the rows of its operands. -/
module

public import proofs.«01_k».proof.Defs
public import proofs.«01_k».proof.Proof.Gen.XattnIdeal.Frame
public import proofs.«01_k».proof.Proof.Gen.XattnRefIdeal.Run
public import Idealize.ShloMosaic.Lib.Pipeline.ValueKit
public import Idealize.ShloMosaic.Lib.Pointwise
public import Idealize.ShloMosaic.Lib.Claim
public import proofs.«01_k».proof.Proof.LayerNorm
public import proofs.«01_k».proof.Proof.Softmax

@[expose] public section

set_option maxRecDepth 16384

noncomputable section

namespace Cert.XattnValue

open Idealize.ShloMosaic Idealize.ShloMosaic.TcCoe Idealize.SL.Sem
open Idealize.ShloMosaic.Pipeline (Dat)
open Cert.XattnIdeal Cert.XattnIdeal.Gen

open Softmax (top weight attend)

/-- The lane of a head. -/
def lane (h : Fin 4) (d : Fin 256) : Fin 1024 := ⟨h.val * 256 + d.val, by omega⟩

/-- The score of a memory token for a head: the token's query lanes against the memory token's key lanes. -/
def score (x : Fin 1024 → EReal) (wq : Fin 1024 → Fin 1024 → EReal) (key : Fin 256 → Fin 1024 → EReal) (h : Fin 4) (j : Fin 256) : EReal :=
  (∑ d : Fin 256, (∑ k : Fin 1024, x k * wq k (lane h d)) * key j (lane h d)) * Ideal.ofBits .f32 0x3D800000#32

/-- The heads' outputs, side by side. -/
def mix (x : Fin 1024 → EReal) (wq : Fin 1024 → Fin 1024 → EReal) (key val : Fin 256 → Fin 1024 → EReal) (l : Fin 1024) : EReal :=
  attend (score x wq key ⟨l.val / 256, by omega⟩) (fun j => val j l)

/-- The token's row after attention, projection, residual and norm. -/
def yrow (x : Fin 1024 → EReal) (key val : Fin 256 → Fin 1024 → EReal) (wq wo : Fin 1024 → Fin 1024 → EReal) (g b : Fin 1024 → EReal) : Fin 1024 → EReal :=
  LayerNorm.norm (LayerNorm.resid (mix x wq key val) x wo) g b

/-- The router's weights of the experts for a row. -/
def aff (y : Fin 1024 → EReal) (wr : Fin 1024 → Fin 16 → EReal) : Fin 16 → EReal :=
  weight fun e => ∑ k : Fin 1024, wr k e * y k

/-- The first head. -/
theorem pay8_at (x : FVec Ideal S1x512x1024 .f32) (w : FVec Ideal S1024x1024 .bf16) (k v : FVec Ideal S1x256x256 .bf16) (r : Fin 512) (d : Fin 256) :
    k0_pay8 (F := Ideal) x w k v (ix2 r d)
      = attend (fun j => (∑ e : Fin 256, (∑ k' : Fin 1024, x (ix3 0 r k') * w (ix2 k' (lane 0 e))) * k (ix3 0 j e)) * Ideal.ofBits .f32 0x3D800000#32)
          (fun j => v (ix3 0 j d)) := by
  pointwise [k0_pay8, k0_pay7, k0_pay6, attend, weight, top, lane]

/-- The second head. -/
theorem pay11_at (x : FVec Ideal S1x512x1024 .f32) (w : FVec Ideal S1024x1024 .bf16) (k v : FVec Ideal S1x256x256 .bf16) (r : Fin 512) (d : Fin 256) :
    k0_pay11 (F := Ideal) (k0_pay9 x w k) (k0_pay10 x w k) v (ix2 r d)
      = attend (fun j => (∑ e : Fin 256, (∑ k' : Fin 1024, x (ix3 0 r k') * w (ix2 k' (lane 1 e))) * k (ix3 0 j e)) * Ideal.ofBits .f32 0x3D800000#32)
          (fun j => v (ix3 0 j d)) := by
  pointwise [k0_pay11, k0_pay10, k0_pay9, k0_pay7, k0_pay6, attend, weight, top, lane]

/-- The third head. -/
theorem pay12_at (x : FVec Ideal S1x512x1024 .f32) (w : FVec Ideal S1024x1024 .bf16) (k v : FVec Ideal S1x256x256 .bf16) (r : Fin 512) (d : Fin 256) :
    k0_pay12 (F := Ideal) (k0_pay7 x w) k v (ix2 r d)
      = attend (fun j => (∑ e : Fin 256, (∑ k' : Fin 1024, x (ix3 0 r k') * w (ix2 k' (lane 2 e))) * k (ix3 0 j e)) * Ideal.ofBits .f32 0x3D800000#32)
          (fun j => v (ix3 0 j d)) := by
  pointwise [k0_pay12, k0_pay7, k0_pay6, attend, weight, top, lane]

/-- The fourth head's scores. -/
theorem pay13_at (x : FVec Ideal S1x512x1024 .f32) (w : FVec Ideal S1024x1024 .bf16) (k : FVec Ideal S1x256x256 .bf16) (r : Fin 512) (j : Fin 256) :
    k0_pay13 (F := Ideal) (k0_pay7 x w) k (ix2 r j)
      = (∑ e : Fin 256, (∑ k' : Fin 1024, x (ix3 0 r k') * w (ix2 k' (lane 3 e))) * k (ix3 0 j e)) * Ideal.ofBits .f32 0x3D800000#32 := by
  pointwise [k0_pay13, k0_pay7, k0_pay6, lane]

/-- Four heads' rows, side by side. -/
def cat (a b c d : Fin 256 → EReal) (k : Fin 1024) : EReal :=
  if h : k.val < 256 then a ⟨k.val, h⟩ else if h' : k.val - 256 < 256 then b ⟨k.val - 256, h'⟩
  else if h'' : k.val - 256 - 256 < 256 then c ⟨k.val - 256 - 256, h''⟩ else d ⟨k.val - 256 - 256 - 256, by omega⟩

/-- The projected rows, with residual, less their mean and over their deviation. -/
theorem pay15_at (x : FVec Ideal S512x1024 .f32) (a b c : FVec Ideal S512x256 .bf16) (s : FVec Ideal S512x256 .f32)
    (v : FVec Ideal S1x256x256 .bf16) (w : FVec Ideal S1024x1024 .bf16) (r : Fin 512) (l : Fin 1024) :
    k0_pay15 (F := Ideal) x a b c s v w (ix2 r l)
      = LayerNorm.unitRow (LayerNorm.resid (cat (fun d => a (ix2 r d)) (fun d => b (ix2 r d)) (fun d => c (ix2 r d))
          (fun d => attend (fun j => s (ix2 r j)) (fun j => v (ix3 0 j d)))) (fun k => x (ix2 r k)) (fun k l => w (ix2 k l))) l := by
  pointwise [k0_pay15, LayerNorm.unitRow, LayerNorm.mean, LayerNorm.resid, cat, attend, weight, top]

/-- The three results, from the rows. -/
theorem pay2_at (b : FVec Ideal S1x1024 .f32) (u g : FVec Ideal S512x1024 .f32) (r : Fin 512) (l : Fin 1024) :
    k0_pay2 (F := Ideal) b u g (ix3 0 r l) = u (ix2 r l) * g (ix2 r l) + b (ix2 0 l) := by
  pointwise [k0_pay2, k0_pay1]
theorem pay4_at (b : FVec Ideal S1x1024 .f32) (u g : FVec Ideal S512x1024 .f32) (r : Fin 512) (l : Fin 1024) :
    k0_pay4 (F := Ideal) b u g (ix3 0 r l) = u (ix2 r l) * g (ix2 r l) + b (ix2 0 l) := by
  pointwise [k0_pay4, k0_pay3, k0_pay1]
theorem pay5_at (b : FVec Ideal S1x1024 .f32) (u g : FVec Ideal S512x1024 .f32) (w : FVec Ideal S16x1024 .bf16) (e : Fin 16) (r : Fin 512) :
    k0_pay5 (F := Ideal) b u g w (ix2 e r) = aff (fun l => u (ix2 r l) * g (ix2 r l) + b (ix2 0 l)) (fun k e => w (ix2 e k)) e := by
  pointwise [k0_pay5, k0_pay3, k0_pay1, aff, weight, top]

/-- Four heads side by side are the heads' outputs. -/
theorem cat_mix (x : Fin 1024 → EReal) (wq : Fin 1024 → Fin 1024 → EReal) (key val : Fin 256 → Fin 1024 → EReal) :
    cat (fun d => attend (score x wq key 0) (fun j => val j (lane 0 d))) (fun d => attend (score x wq key 1) (fun j => val j (lane 1 d)))
        (fun d => attend (score x wq key 2) (fun j => val j (lane 2 d))) (fun d => attend (score x wq key 3) (fun j => val j (lane 3 d)))
      = mix x wq key val := by
  have go : ∀ (h : Fin 4) (d : Fin 256) (l : Fin 1024), l = lane h d →
      attend (score x wq key h) (fun j => val j (lane h d)) = mix x wq key val l := by
    intro h d l e
    have e' : (⟨l.val / 256, by omega⟩ : Fin 4) = h := by
      subst e; exact Fin.ext (by show (h.val * 256 + d.val) / 256 = h.val; omega)
    unfold mix; rw [e', e]
  funext l
  unfold cat
  split
  · exact go 0 _ l (Fin.ext (by show l.val = 0 * 256 + l.val; omega))
  · split
    · exact go 1 _ l (Fin.ext (by show l.val = 1 * 256 + (l.val - 256); omega))
    · split
      · exact go 2 _ l (Fin.ext (by show l.val = 2 * 256 + (l.val - 256 - 256); omega))
      · exact go 3 _ l (Fin.ext (by show l.val = 3 * 256 + (l.val - 256 - 256 - 256); omega))

variable (x : FVec Ideal S1x512x1024 .f32) (k v : FVec Ideal S1x256x1024 .bf16) (wq wo : FVec Ideal S1024x1024 .bf16)
  (g b : FVec Ideal S1x1024 .f32) (wr : FVec Ideal S16x1024 .bf16)

/-- The scores of a head whose lanes are named otherwise. -/
theorem score_eq (x : Fin 1024 → EReal) (wq : Fin 1024 → Fin 1024 → EReal) (key : Fin 256 → Fin 1024 → EReal) (h : Fin 4)
    (ln : Fin 256 → Fin 1024) (e : ∀ d, ln d = lane h d) :
    score x wq key h = fun j => (∑ d : Fin 256, (∑ k : Fin 1024, x k * wq k (ln d)) * key j (ln d)) * Ideal.ofBits .f32 0x3D800000#32 := by
  obtain rfl : ln = lane h := funext e
  rfl

/-- The rows of a block, before scale and shift. -/
theorem rows_at (r : Fin 512) (l : Fin 1024) :
    k0_pay19 (F := Ideal) x k v wq wo g b wr (ix2 r l)
      = LayerNorm.unitRow (LayerNorm.resid (mix (fun k => x (ix3 0 r k)) (fun k l => wq (ix2 k l)) (fun j l => k (ix3 0 j l)) (fun j l => v (ix3 0 j l)))
          (fun k => x (ix3 0 r k)) (fun k l => wo (ix2 k l))) l := by
  unfold k0_pay19 k0_pay17
  refine (pay15_at _ _ _ _ _ _ _ r l).trans ?_
  rw [← cat_mix]
  simp only [pay8_at, pay11_at, pay12_at, pay13_at]
  pointwise [k0_pay6, lane]
  rw [score_eq _ _ _ 0 (fun d => ⟨d.val, by omega⟩) fun d => Fin.ext (by show d.val = 0 * 256 + d.val; omega),
    score_eq _ _ _ 1 (fun d => ⟨256 + d.val, by omega⟩) fun d => Fin.ext (by show 256 + d.val = 1 * 256 + d.val; omega),
    score_eq _ _ _ 2 (fun d => ⟨512 + d.val, by omega⟩) fun d => Fin.ext (by show 512 + d.val = 2 * 256 + d.val; omega),
    score_eq _ _ _ 3 (fun d => ⟨768 + d.val, by omega⟩) fun d => Fin.ext (by show 768 + d.val = 3 * 256 + d.val; omega)]

theorem scale_at (r : Fin 512) (l : Fin 1024) : k0_pay20 (F := Ideal) x k v wq wo g b wr (ix2 r l) = g (ix2 0 l) := by
  unfold k0_pay20
  pointwise [k0_pay16]

theorem shift_at (l : Fin 1024) : k0_pay18 (F := Ideal) x k v wq wo g b wr (ix2 0 l) = b (ix2 0 l) := by
  unfold k0_pay18
  pointwise [k0_pay14]

/-- The rows of a block's point. -/
def blockRow (r : Fin 512) : Fin 1024 → EReal :=
  yrow (fun k => x (ix3 0 r k)) (fun j l => k (ix3 0 j l)) (fun j l => v (ix3 0 j l)) (fun k l => wq (ix2 k l)) (fun k l => wo (ix2 k l))
    (fun k => g (ix2 0 k)) (fun k => b (ix2 0 k))

theorem out8_at (r : Fin 512) (l : Fin 1024) :
    out0_8 (F := Ideal) x k v wq wo g b wr (ix3 0 r l) = blockRow x k v wq wo g b r l := by
  frame_out
  refine (pay2_at _ _ _ r l).trans ?_
  rw [rows_at, scale_at, shift_at]; rfl

theorem out9_at (r : Fin 512) (l : Fin 1024) :
    out0_9 (F := Ideal) x k v wq wo g b wr (ix3 0 r l) = blockRow x k v wq wo g b r l := by
  frame_out
  refine (pay4_at _ _ _ r l).trans ?_
  rw [rows_at, scale_at, shift_at]; rfl

theorem out10_at (e : Fin 16) (r : Fin 512) :
    out0_10 (F := Ideal) x k v wq wo g b wr (ix2 e r) = aff (blockRow x k v wq wo g b r) (fun k e => wr (ix2 e k)) e := by
  frame_out
  refine (pay5_at _ _ _ _ e r).trans ?_
  simp only [rows_at, scale_at, shift_at]
  pointwise
  rfl

end Cert.XattnValue

end
-- ==== Proof.XattnRef.lean ====
/- The memory cross-attention as the reference writes it: its three results at an index. -/
module

public import proofs.«01_k».proof.Defs
public import proofs.«01_k».proof.Proof.Gen.XattnIdeal.Frame
public import proofs.«01_k».proof.Proof.Gen.XattnRefIdeal.Run
public import Idealize.ShloMosaic.Lib.Pipeline.ValueKit
public import Idealize.ShloMosaic.Lib.Pointwise
public import Idealize.ShloMosaic.Lib.Claim
public import proofs.«01_k».proof.Proof.XattnPoint

@[expose] public section

set_option maxRecDepth 16384

noncomputable section

namespace Cert.XattnValue

open Idealize.ShloMosaic Idealize.ShloMosaic.TcCoe Idealize.SL.Sem
open Idealize.ShloMosaic.Pipeline (Dat)
open Cert.XattnRefIdeal Cert.XattnRefIdeal.Gen

open Softmax (top weight attend)

/-- Keys and values by head. -/
def refKv (kv : FVec Ideal S4x256x2048 .bf16) : FVec Ideal S4x256x2x4x256 .f32 :=
  shapeCast _ (extf .f32 kv bitsLt_bf16_f32) shapeCasts_S4x256x2048_S4x256x2x4x256

/-- The scaled scores. -/
def refScores (x : FVec Ideal S4x8192x1024 .f32) (kv : FVec Ideal S4x256x2048 .bf16) (wq : FVec Ideal S1024x1024 .f32) : FVec Ideal S4x4x8192x256 .f32 :=
  mulf (Host.dotGeneral dot_S4x8192x4x256_S4x256x4x256_S4x4x8192x256_3_3_1_1_02_02 none (shapeCast _ (Host.dotGeneral dot_S4x8192x1024_S1024x1024_S4x8192x1024_2_0_01_1_n_n none x wq) shapeCasts_S4x8192x1024_S4x8192x4x256) (shapeCast _ (extractStridedSlice S4x256x1x4x256 ![0, 0, 0, 0, 0] (refKv kv) slices_S4x256x2x4x256_S4x256x1x4x256_0_0_0_0_0) shapeCasts_S4x256x1x4x256_S4x256x4x256)) (broadcastInDim S4x4x8192x256 ![] bcast_S_S4x4x8192x256 (constant S_ .f32 0x3D800000#32))

/-- The largest scores. -/
def refTop (s : FVec Ideal S4x4x8192x256 .f32) : FVec Ideal S4x4x8192 .f32 :=
  Host.reduce FloatOps.maximumf s (constant S_ .f32 0xFF800000#32) reducesTo_S4x4x8192x256_S4x4x8192_d3 h_S_
def refMax (u : FVec Ideal S4x4x8192 .f32) : FVec Ideal S4x4x8192 .f32 :=
  maximumf (broadcastInDim S4x4x8192 ![] bcast_S_S4x4x8192 (constant S_ .f32 0xFF800000#32)) u

/-- The exponentials of the scores less their largest. -/
def refExp (s : FVec Ideal S4x4x8192x256 .f32) : FVec Ideal S4x4x8192x256 .f32 :=
  Host.exp (subf s (broadcastInDim S4x4x8192x256 ![0, 1, 2, 3] bcast_S4x4x8192x1_S4x4x8192x256_0_1_2_3 (broadcastInDim S4x4x8192x1 ![0, 1, 2] bcast_S4x4x8192_S4x4x8192x1_0_1_2 (refMax (refTop s)))))

/-- The softmax of the scores. -/
def refWeights (s : FVec Ideal S4x4x8192x256 .f32) : FVec Ideal S4x4x8192x256 .f32 :=
  Host.divf (refExp s) (broadcastInDim S4x4x8192x256 ![0, 1, 2, 3] bcast_S4x4x8192x1_S4x4x8192x256_0_1_2_3 (broadcastInDim S4x4x8192x1 ![0, 1, 2] bcast_S4x4x8192_S4x4x8192x1_0_1_2 (Host.reduceAdd (refExp s) (constant S_ .f32 0x00000000#32) reducesTo_S4x4x8192x256_S4x4x8192_d3 h_S_)))

/-- The heads' outputs side by side, from the weights. -/
def refMix (p : FVec Ideal S4x4x8192x256 .f32) (kv : FVec Ideal S4x256x2048 .bf16) : FVec Ideal S4x8192x1024 .f32 :=
  shapeCast _ (transpose S4x8192x4x256 [0, 3, 1, 2] (Host.dotGeneral dot_S4x256x4x256_S4x4x8192x256_S4x4x256x8192_1_3_3_2_02_01 none (shapeCast _ (extractStridedSlice S4x256x1x4x256 ![0, 0, 1, 0, 0] (refKv kv) slices_S4x256x2x4x256_S4x256x1x4x256_0_0_1_0_0) shapeCasts_S4x256x1x4x256_S4x256x4x256) p) transposes_S4x4x256x8192_S4x8192x4x256_0_3_1_2) shapeCasts_S4x8192x4x256_S4x8192x1024

/-- The rows before the norm. -/
def refRows (o x : FVec Ideal S4x8192x1024 .f32) (wo : FVec Ideal S1024x1024 .f32) : FVec Ideal S4x8192x1024 .f32 :=
  addf (mulf (broadcastInDim S4x8192x1024 ![] bcast_S_S4x8192x1024 (constant S_ .f32 0x3FB504F3#32)) x) (Host.dotGeneral dot_S4x8192x1024_S1024x1024_S4x8192x1024_2_0_01_1_n_n none o wo)

/-- The first result. -/
def refY (x : FVec Ideal S4x8192x1024 .f32) (kv : FVec Ideal S4x256x2048 .bf16) (wq wo : FVec Ideal S1024x1024 .f32) (g b : FVec Ideal S1024 .f32) : FVec Ideal S4x8192x1024 .f32 :=
  LayerNorm.norms (refRows (refMix (refWeights (refScores x kv wq)) kv) x wo) g b

/-- The router's scores. -/
def refLogits (y : FVec Ideal S4x8192x1024 .f32) (wr : FVec Ideal S1024x16 .f32) : FVec Ideal S32768x16 .f32 :=
  Host.dotGeneral dot_S32768x1024_S1024x16_S32768x16_1_0_0_1_n_n none (shapeCast _ y shapeCasts_S4x8192x1024_S32768x1024) wr

/-- The exponentials of the router's scores less their largest. -/
def refLexp (s : FVec Ideal S32768x16 .f32) : FVec Ideal S32768x16 .f32 :=
  Host.exp (subf s (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf s (constant S_ .f32 0xFF800000#32) reducesTo_S32768x16_S32768_d1 h_S_)))))

/-- The third result. -/
def refAff (y : FVec Ideal S4x8192x1024 .f32) (wr : FVec Ideal S1024x16 .f32) : FVec Ideal S16x32768 .f32 :=
  transpose S16x32768 [1, 0] (Host.divf (refLexp (refLogits y wr)) (broadcastInDim S32768x16 ![0, 1] bcast_S32768x1_S32768x16_0_1 (broadcastInDim S32768x1 ![0] bcast_S32768_S32768x1_0 (Host.reduceAdd (refLexp (refLogits y wr)) (constant S_ .f32 0x00000000#32) reducesTo_S32768x16_S32768_d1 h_S_)))) transposes_S32768x16_S16x32768_1_0

theorem refScores_at (x : FVec Ideal S4x8192x1024 .f32) (kv : FVec Ideal S4x256x2048 .bf16) (wq : FVec Ideal S1024x1024 .f32)
    (a : Fin 4) (h : Fin 4) (r : Fin 8192) (j : Fin 256) :
    refScores x kv wq (ix4 a h r j)
      = score (fun k => x (ix3 a r k)) (fun k l => wq (ix2 k l)) (fun j l => kv (ix3 a j ⟨l.val, by omega⟩)) h j := by
  pointwise [refScores, refKv, score, lane]

theorem refTop_at (s : FVec Ideal S4x4x8192x256 .f32) (a h : Fin 4) (r : Fin 8192) :
    refTop s (ix3 a h r) = Finset.univ.fold max (Ideal.ofBits .f32 0xFF800000#32) fun j : Fin 256 => s (ix4 a h r j) := by
  pointwise [refTop]

theorem refMax_at (u : FVec Ideal S4x4x8192 .f32) (i : S4x4x8192.Idx) :
    refMax u i = max (Ideal.ofBits .f32 0xFF800000#32) (u i) := by
  pointwise [refMax]

theorem refExp_at (s : FVec Ideal S4x4x8192x256 .f32) (a h : Fin 4) (r : Fin 8192) (j : Fin 256) :
    refExp s (ix4 a h r j) = Ideal.exp (s (ix4 a h r j) - refMax (refTop s) (ix3 a h r)) := by
  pointwise [refExp]

theorem refWeights_exp (s : FVec Ideal S4x4x8192x256 .f32) (a h : Fin 4) (r : Fin 8192) (j : Fin 256) :
    refWeights s (ix4 a h r j) = Ideal.div (refExp s (ix4 a h r j)) (∑ i : Fin 256, refExp s (ix4 a h r i)) := by
  pointwise [refWeights]

theorem refWeights_at (s : FVec Ideal S4x4x8192x256 .f32) (a h : Fin 4) (r : Fin 8192) (j : Fin 256) :
    refWeights s (ix4 a h r j) = weight (fun j => s (ix4 a h r j)) j := by
  have e : refMax (refTop s) (ix3 a h r) = top fun j : Fin 256 => s (ix4 a h r j) := by
    rw [refMax_at, refTop_at]; exact Softmax.max_top _
  rw [refWeights_exp]
  simp only [refExp_at, e]
  rfl

theorem refMix_at (p : FVec Ideal S4x4x8192x256 .f32) (kv : FVec Ideal S4x256x2048 .bf16) (a : Fin 4) (r : Fin 8192) (l : Fin 1024) :
    refMix p kv (ix3 a r l) = ∑ j : Fin 256, p (ix4 a ⟨l.val / 256, by omega⟩ r j) * kv (ix3 a j ⟨1024 + l.val, by omega⟩) := by
  pointwise [refMix, refKv]
  refine Finset.sum_congr rfl fun j _ => (mul_comm _ _).trans ?_
  have e : (⟨1024 + l.val / 256 * 256 + l.val % 256, by omega⟩ : Fin 2048) = ⟨1024 + l.val, by omega⟩ := Fin.ext (by show 1024 + l.val / 256 * 256 + l.val % 256 = 1024 + l.val; omega)
  rw [e]

theorem refRows_at (o x : FVec Ideal S4x8192x1024 .f32) (wo : FVec Ideal S1024x1024 .f32) (a : Fin 4) (r : Fin 8192) (l : Fin 1024) :
    refRows o x wo (ix3 a r l) = LayerNorm.resid (fun k => o (ix3 a r k)) (fun k => x (ix3 a r k)) (fun k l => wo (ix2 k l)) l := by
  pointwise [refRows, LayerNorm.resid]

theorem refLogits_at (y : FVec Ideal S4x8192x1024 .f32) (wr : FVec Ideal S1024x16 .f32) (n : Fin 32768) (e : Fin 16) :
    refLogits y wr (ix2 n e) = ∑ k : Fin 1024, wr (ix2 k e) * y (ix3 ⟨n.val / 8192, by omega⟩ ⟨n.val % 8192, by omega⟩ k) := by
  pointwise [refLogits]
  exact Finset.sum_congr rfl fun k _ => mul_comm _ _

theorem refLexp_at (s : FVec Ideal S32768x16 .f32) (n : Fin 32768) (e : Fin 16) :
    refLexp s (ix2 n e) = Ideal.exp (s (ix2 n e) - max (Ideal.ofBits .f32 0xFF800000#32) (Finset.univ.fold max (Ideal.ofBits .f32 0xFF800000#32) fun e : Fin 16 => s (ix2 n e))) := by
  pointwise [refLexp]

theorem refAff_exp (y : FVec Ideal S4x8192x1024 .f32) (wr : FVec Ideal S1024x16 .f32) (e : Fin 16) (n : Fin 32768) :
    refAff y wr (ix2 e n) = Ideal.div (refLexp (refLogits y wr) (ix2 n e)) (∑ i : Fin 16, refLexp (refLogits y wr) (ix2 n i)) := by
  pointwise [refAff]

theorem refAff_at (y : FVec Ideal S4x8192x1024 .f32) (wr : FVec Ideal S1024x16 .f32) (e : Fin 16) (n : Fin 32768) :
    refAff y wr (ix2 e n) = aff (fun k => y (ix3 ⟨n.val / 8192, by omega⟩ ⟨n.val % 8192, by omega⟩ k)) (fun k e => wr (ix2 k e)) e := by
  have m : ∀ s : Fin 16 → EReal, max (Ideal.ofBits .f32 0xFF800000#32) (Finset.univ.fold max (Ideal.ofBits .f32 0xFF800000#32) s) = top s := Softmax.max_top
  rw [refAff_exp]
  simp only [refLexp_at, m, refLogits_at]
  rfl

/-- The first result at an index. -/
theorem refY_at (x : FVec Ideal S4x8192x1024 .f32) (kv : FVec Ideal S4x256x2048 .bf16) (wq wo : FVec Ideal S1024x1024 .f32) (g b : FVec Ideal S1024 .f32)
    (a : Fin 4) (r : Fin 8192) (l : Fin 1024) :
    refY x kv wq wo g b (ix3 a r l)
      = yrow (fun k => x (ix3 a r k)) (fun j l => kv (ix3 a j ⟨l.val, by omega⟩)) (fun j l => kv (ix3 a j ⟨1024 + l.val, by omega⟩))
          (fun k l => wq (ix2 k l)) (fun k l => wo (ix2 k l)) (fun k => g (ix1 k)) (fun k => b (ix1 k)) l := by
  unfold refY
  rw [LayerNorm.norms_at]
  simp only [refRows_at, refMix_at, refWeights_at, refScores_at]
  rfl

end Cert.XattnValue

end
-- ==== Proof.XattnValue.lean ====
/- The memory cross-attention with its residual, layer norm and router weights: the arrays the kernel leaves are the reference's. -/
module

public import proofs.«01_k».proof.Defs
public import proofs.«01_k».proof.Proof.Gen.XattnIdeal.Frame
public import proofs.«01_k».proof.Proof.Gen.XattnRefIdeal.Run
public import Idealize.ShloMosaic.Lib.Pipeline.ValueKit
public import Idealize.ShloMosaic.Lib.Pointwise
public import Idealize.ShloMosaic.Lib.Claim
public import proofs.«01_k».proof.Proof.XattnPoint
public import proofs.«01_k».proof.Proof.XattnRef

@[expose] public section

set_option maxRecDepth 65536

noncomputable section

namespace Cert.XattnValue

open Idealize.ShloMosaic Idealize.ShloMosaic.TcCoe Idealize.SL.Sem
open Idealize.ShloMosaic.Pipeline (Dat)
open Idealize.ShloMosaic.StableHlo (launchContents)
open Cert.XattnIdeal Cert.XattnIdeal.Gen

variable (m : (ℓ : Loc nD τ sig) → Buf (Elt Ideal) ℓ)

/-- The windows' block indices at every grid point. -/
theorem idx : ∀ t : Fin cfg0.N, win0_0.index t = ![t.val / 16, t.val % 16, 0] ∧ win0_1.index t = ![t.val / 16, 0, 0] ∧ win0_2.index t = ![t.val / 16, 0, 0]
    ∧ win0_3.index t = ![0, 0] ∧ win0_4.index t = ![0, 0] ∧ win0_5.index t = ![0, 0] ∧ win0_6.index t = ![0, 0] ∧ win0_7.index t = ![0, 0]
    ∧ win0_8.index t = ![t.val / 16, t.val % 16, 0] ∧ win0_9.index t = ![t.val / 16, t.val % 16, 0] ∧ win0_10.index t = ![0, t.val] :=
  (by decide +kernel : ∀ t : Fin grid0.N, _)

theorem lt_points (t : Fin cfg0.N) : t.val < 64 := t.isLt

/-- The batch of a point. -/
def bat (t : Fin cfg0.N) : Fin 4 := ⟨t.val / 16, by have := lt_points t; omega⟩
/-- The array row of a block's row. -/
def row (t : Fin cfg0.N) (r : Fin 512) : Fin 8192 := ⟨t.val % 16 * 512 + r, by omega⟩
/-- The token of a block's row, over all batches. -/
def tok (t : Fin cfg0.N) (r : Fin 512) : Fin 32768 := ⟨t.val * 512 + r, by have := lt_points t; omega⟩

/-- The operands at the kernel's start. -/
theorem V_k (c : Dev nD) : V m c main_v0
    = extractStridedSlice S4x256x1024 ![0, 0, 0] (m ((c : Thread nD τ).loc main_arg1)) slices_S4x256x2048_S4x256x1024_0_0_0 := by
  entry_read; rfl
theorem V_v (c : Dev nD) : V m c main_v1
    = extractStridedSlice S4x256x1024 ![0, 0, 1024] (m ((c : Thread nD τ).loc main_arg1)) slices_S4x256x2048_S4x256x1024_0_0_1024 := by
  entry_read; rfl
theorem V_wq (c : Dev nD) : V m c main_v2
    = (truncf .bf16 (show FVec Ideal S1024x1024 .f32 from m ((c : Thread nD τ).loc main_arg2)) bitsLt_bf16_f32 : FVec Ideal S1024x1024 .bf16) := by
  entry_read; rfl
theorem V_wo (c : Dev nD) : V m c main_v3
    = (truncf .bf16 (show FVec Ideal S1024x1024 .f32 from m ((c : Thread nD τ).loc main_arg3)) bitsLt_bf16_f32 : FVec Ideal S1024x1024 .bf16) := by
  entry_read; rfl
theorem V_wr (c : Dev nD) : V m c main_v5
    = (truncf .bf16 (transpose S16x1024 [1, 0] (show FVec Ideal S1024x16 .f32 from m ((c : Thread nD τ).loc main_arg6)) transposes_S1024x16_S16x1024_1_0) bitsLt_bf16_f32 : FVec Ideal S16x1024 .bf16) := by
  entry_read; rfl
theorem V_g (c : Dev nD) : V m c main_v6
    = shapeCast S1x1024 (m ((c : Thread nD τ).loc main_arg4)) shapeCasts_S1024_S1x1024 := by
  entry_read; rfl
theorem V_b (c : Dev nD) : V m c main_v7
    = shapeCast S1x1024 (m ((c : Thread nD τ).loc main_arg5)) shapeCasts_S1024_S1x1024 := by
  entry_read; rfl

/-- Cut, turned and flattened operands, at an index. -/
theorem cut_k (kv : FVec Ideal S4x256x2048 .bf16) (a : Fin 4) (j : Fin 256) (l : Fin 1024) :
    extractStridedSlice S4x256x1024 ![0, 0, 0] kv slices_S4x256x2048_S4x256x1024_0_0_0 (ix3 a j l) = kv (ix3 a j ⟨l.val, by omega⟩) := by
  pointwise
theorem cut_v (kv : FVec Ideal S4x256x2048 .bf16) (a : Fin 4) (j : Fin 256) (l : Fin 1024) :
    extractStridedSlice S4x256x1024 ![0, 0, 1024] kv slices_S4x256x2048_S4x256x1024_0_0_1024 (ix3 a j l) = kv (ix3 a j ⟨1024 + l.val, by omega⟩) := by
  pointwise
theorem turn_wr (w : FVec Ideal S1024x16 .f32) (e : Fin 16) (k : Fin 1024) :
    (truncf .bf16 (transpose S16x1024 [1, 0] w transposes_S1024x16_S16x1024_1_0) bitsLt_bf16_f32 : FVec Ideal S16x1024 .bf16) (ix2 e k) = w (ix2 k e) := by
  pointwise
theorem flat_g (g : FVec Ideal S1024 .f32) (k : Fin 1024) :
    shapeCast S1x1024 g shapeCasts_S1024_S1x1024 (ix2 0 k) = g (ix1 k) := by
  pointwise

theorem x_at (c : Dev nD) (t : Fin cfg0.N) (r : Fin 512) (k : Fin 1024) :
    (show FVec Ideal S1x512x1024 .f32 from iblk m c 0 t) (ix3 0 r k)
      = (show FVec Ideal S4x8192x1024 .f32 from m ((c : Thread nD τ).loc main_arg0)) (ix3 (bat t) (row t r) k) := by
  have e : (show FVec Ideal S1x512x1024 .f32 from iblk m c 0 t) (ix3 0 r k)
      = (show FVec Ideal S4x8192x1024 .f32 from V m c main_arg0) (ix3 (bat t) (row t r) k) := by
    blk_ext [iblk, idx t, row, bat]
  exact e.trans (congrFun (V_main_arg0 m c) _)

theorem k_at (c : Dev nD) (t : Fin cfg0.N) (j : Fin 256) (l : Fin 1024) :
    (show FVec Ideal S1x256x1024 .bf16 from iblk m c 1 t) (ix3 0 j l)
      = (show FVec Ideal S4x256x2048 .bf16 from m ((c : Thread nD τ).loc main_arg1)) (ix3 (bat t) j ⟨l.val, by omega⟩) := by
  have h : (show FVec Ideal S1x256x1024 .bf16 from iblk m c 1 t) (ix3 0 j l)
      = (show FVec Ideal S4x256x1024 .bf16 from V m c main_v0) (ix3 (bat t) j l) := by
    blk_ext [iblk, idx t, bat]
  exact h.trans ((congrFun (V_k m c) _).trans (cut_k _ _ j l))

theorem v_at (c : Dev nD) (t : Fin cfg0.N) (j : Fin 256) (l : Fin 1024) :
    (show FVec Ideal S1x256x1024 .bf16 from iblk m c 2 t) (ix3 0 j l)
      = (show FVec Ideal S4x256x2048 .bf16 from m ((c : Thread nD τ).loc main_arg1)) (ix3 (bat t) j ⟨1024 + l.val, by omega⟩) := by
  have h : (show FVec Ideal S1x256x1024 .bf16 from iblk m c 2 t) (ix3 0 j l)
      = (show FVec Ideal S4x256x1024 .bf16 from V m c main_v1) (ix3 (bat t) j l) := by
    blk_ext [iblk, idx t, bat]
  exact h.trans ((congrFun (V_v m c) _).trans (cut_v _ _ j l))

theorem wq_at (c : Dev nD) (t : Fin cfg0.N) (k l : Fin 1024) :
    (show FVec Ideal S1024x1024 .bf16 from iblk m c 3 t) (ix2 k l)
      = (show FVec Ideal S1024x1024 .f32 from m ((c : Thread nD τ).loc main_arg2)) (ix2 k l) := by
  have h : (show FVec Ideal S1024x1024 .bf16 from iblk m c 3 t) (ix2 k l)
      = (show FVec Ideal S1024x1024 .bf16 from V m c main_v2) (ix2 k l) := by
    blk_ext [iblk, idx t, bat]
  exact h.trans (congrFun (V_wq m c) _)

theorem wo_at (c : Dev nD) (t : Fin cfg0.N) (k l : Fin 1024) :
    (show FVec Ideal S1024x1024 .bf16 from iblk m c 4 t) (ix2 k l)
      = (show FVec Ideal S1024x1024 .f32 from m ((c : Thread nD τ).loc main_arg3)) (ix2 k l) := by
  have h : (show FVec Ideal S1024x1024 .bf16 from iblk m c 4 t) (ix2 k l)
      = (show FVec Ideal S1024x1024 .bf16 from V m c main_v3) (ix2 k l) := by
    blk_ext [iblk, idx t, bat]
  exact h.trans (congrFun (V_wo m c) _)

theorem g_at (c : Dev nD) (t : Fin cfg0.N) (k : Fin 1024) :
    (show FVec Ideal S1x1024 .f32 from iblk m c 5 t) (ix2 0 k)
      = (show FVec Ideal S1024 .f32 from m ((c : Thread nD τ).loc main_arg4)) (ix1 k) := by
  have h : (show FVec Ideal S1x1024 .f32 from iblk m c 5 t) (ix2 0 k)
      = (show FVec Ideal S1x1024 .f32 from V m c main_v6) (ix2 0 k) := by
    blk_ext [iblk, idx t, bat]
  exact h.trans ((congrFun (V_g m c) _).trans (flat_g _ k))

theorem b_at (c : Dev nD) (t : Fin cfg0.N) (k : Fin 1024) :
    (show FVec Ideal S1x1024 .f32 from iblk m c 6 t) (ix2 0 k)
      = (show FVec Ideal S1024 .f32 from m ((c : Thread nD τ).loc main_arg5)) (ix1 k) := by
  have h : (show FVec Ideal S1x1024 .f32 from iblk m c 6 t) (ix2 0 k)
      = (show FVec Ideal S1x1024 .f32 from V m c main_v7) (ix2 0 k) := by
    blk_ext [iblk, idx t, bat]
  exact h.trans ((congrFun (V_b m c) _).trans (flat_g _ k))

theorem wr_at (c : Dev nD) (t : Fin cfg0.N) (e : Fin 16) (k : Fin 1024) :
    (show FVec Ideal S16x1024 .bf16 from iblk m c 7 t) (ix2 e k)
      = (show FVec Ideal S1024x16 .f32 from m ((c : Thread nD τ).loc main_arg6)) (ix2 k e) := by
  have h : (show FVec Ideal S16x1024 .bf16 from iblk m c 7 t) (ix2 e k)
      = (show FVec Ideal S16x1024 .bf16 from V m c main_v5) (ix2 e k) := by
    blk_ext [iblk, idx t, bat]
  exact h.trans ((congrFun (V_wr m c) _).trans (turn_wr _ e k))

/-- The rows of a point's block are the reference's first result. -/
theorem row_at (c : Dev nD) (t : Fin cfg0.N) (r : Fin 512) :
    blockRow (iblk m c 0 t) (iblk m c 1 t) (iblk m c 2 t) (iblk m c 3 t) (iblk m c 4 t) (iblk m c 5 t) (iblk m c 6 t) r
      = fun l => refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (row t r) l) := by
  funext l
  rw [refY_at]
  have hx := funext fun k => x_at m c t r k
  have hk := funext fun j => funext fun l => k_at m c t j l
  have hv := funext fun j => funext fun l => v_at m c t j l
  have hq := funext fun k => funext fun l => wq_at m c t k l
  have ho := funext fun k => funext fun l => wo_at m c t k l
  have hg := funext fun k => g_at m c t k
  have hb := funext fun k => b_at m c t k
  exact congrFun (congr (congr (congr (congr (congr (congrArg₂ yrow hx hk) hv) hq) ho) hg) hb) l

/-- What a point stores is the reference at the array index of the same place. -/
theorem point8 (c : Dev nD) (t : Fin cfg0.N) (r : Fin 512) (l : Fin 1024) :
    out0_8 (F := Ideal) (iblk m c 0 t) (iblk m c 1 t) (iblk m c 2 t) (iblk m c 3 t) (iblk m c 4 t) (iblk m c 5 t) (iblk m c 6 t) (iblk m c 7 t) (ix3 0 r l)
      = refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (row t r) l) :=
  (out8_at _ _ _ _ _ _ _ _ r l).trans (congrFun (row_at m c t r) l)

theorem point9 (c : Dev nD) (t : Fin cfg0.N) (r : Fin 512) (l : Fin 1024) :
    out0_9 (F := Ideal) (iblk m c 0 t) (iblk m c 1 t) (iblk m c 2 t) (iblk m c 3 t) (iblk m c 4 t) (iblk m c 5 t) (iblk m c 6 t) (iblk m c 7 t) (ix3 0 r l)
      = refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 (bat t) (row t r) l) :=
  (out9_at _ _ _ _ _ _ _ _ r l).trans (congrFun (row_at m c t r) l)

theorem point10 (c : Dev nD) (t : Fin cfg0.N) (e : Fin 16) (r : Fin 512) :
    out0_10 (F := Ideal) (iblk m c 0 t) (iblk m c 1 t) (iblk m c 2 t) (iblk m c 3 t) (iblk m c 4 t) (iblk m c 5 t) (iblk m c 6 t) (iblk m c 7 t) (ix2 e r)
      = refAff (refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (ix2 e (tok t r)) := by
  refine (out10_at _ _ _ _ _ _ _ _ e r).trans ?_
  rw [refAff_at, row_at]
  have h0 : (⟨(tok t r).val / 8192, by omega⟩ : Fin 4) = bat t := Fin.ext (by show (t.val * 512 + r.val) / 8192 = t.val / 16; omega)
  have h1 : (⟨(tok t r).val % 8192, by omega⟩ : Fin 8192) = row t r := Fin.ext (by show (t.val * 512 + r.val) % 8192 = t.val % 16 * 512 + r.val; omega)
  rw [h0, h1]
  have hw := funext fun k => funext fun e => wr_at m c t e k
  exact congrFun (congrArg (aff _) hw) e

/-- The result arrays after the run. -/
theorem final8 (c : Dev nD) : (dats m 0 c).arrAt 8 (cfgs 0).N
    = refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  idx_vars y
  obtain rfl : y0 = 0 := Subsingleton.elim _ _
  refine (point8 m c t y1 y2).trans (congrArg _ ?_)
  blk_ext [idx t, row, bat]

theorem final9 (c : Dev nD) : (dats m 0 c).arrAt 9 (cfgs 0).N
    = truncf .bf16 (refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) Cert.XattnRefIdeal.Gen.bitsLt_bf16_f32 := by
  refine (dats m 0 c).arrAt_eq_of_covers 9 _ (by decide +kernel) fun t _ y => ?_
  blk_simp
  rw [after0_9]
  idx_vars y
  obtain rfl : y0 = 0 := Subsingleton.elim _ _
  refine (point9 m c t y1 y2).trans (congrArg (refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ?_)
  blk_ext [idx t, row, bat]

theorem final10 (c : Dev nD) : (dats m 0 c).arrAt 10 (cfgs 0).N
    = refAff (refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (dats m 0 c).arrAt_eq_of_covers 10 _ (by decide +kernel) fun t _ y => ?_
  blk_simp
  rw [after0_10]
  idx_vars y
  refine (point10 m c t y0 y1).trans (congrArg _ ?_)
  blk_ext [idx t, tok]

/-- The reference's run leaves those terms. -/
theorem ref_run (n : (ℓ : Loc Cert.XattnRefIdeal.nD Cert.XattnRefIdeal.τ Cert.XattnRefIdeal.sig) → Buf (Elt Ideal) ℓ) (c : Dev Cert.XattnRefIdeal.nD) :
    Cert.XattnRefIdeal.Value.res_main_v52 (launchContents n c) = refY (n ((c.tc : Thread Cert.XattnRefIdeal.nD Cert.XattnRefIdeal.τ).loc Cert.XattnRefIdeal.main_arg0)) (n ((c.tc : Thread Cert.XattnRefIdeal.nD Cert.XattnRefIdeal.τ).loc Cert.XattnRefIdeal.main_arg1)) (n ((c.tc : Thread Cert.XattnRefIdeal.nD Cert.XattnRefIdeal.τ).loc Cert.XattnRefIdeal.main_arg2)) (n ((c.tc : Thread Cert.XattnRefIdeal.nD Cert.XattnRefIdeal.τ).loc Cert.XattnRefIdeal.main_arg3)) (n ((c.tc : Thread Cert.XattnRefIdeal.nD Cert.XattnRefIdeal.τ).loc Cert.XattnRefIdeal.main_arg4)) (n ((c.tc : Thread Cert.XattnRefIdeal.nD Cert.XattnRefIdeal.τ).loc Cert.XattnRefIdeal.main_arg5)) := rfl

theorem ref_run61 (n : (ℓ : Loc Cert.XattnRefIdeal.nD Cert.XattnRefIdeal.τ Cert.XattnRefIdeal.sig) → Buf (Elt Ideal) ℓ) (c : Dev Cert.XattnRefIdeal.nD) :
    Cert.XattnRefIdeal.Value.res_main_v61 (launchContents n c) = refLexp (refLogits (Cert.XattnRefIdeal.Value.res_main_v52 (launchContents n c)) (n ((c.tc : Thread Cert.XattnRefIdeal.nD Cert.XattnRefIdeal.τ).loc Cert.XattnRefIdeal.main_arg6))) := rfl

/-- The two programs end with the same arrays. -/
theorem algebraic : Cert.algebraic_XattnIdeal_XattnRefIdeal := by
  pair_intro
  · run_from Cert.XattnIdeal.Gen.run_main m g
  · run_from Cert.XattnRefIdeal.Value.run m' g'
    · obtain ⟨h0, h1, h2, h3, h4, h5, h6⟩ := hagree c
      rw [ref_run, h0, h1, h2, h3, h4, h5]
      exact (final8 m c).symm
    · obtain ⟨h0, h1, h2, h3, h4, h5, h6⟩ := hagree c
      rw [ref_run, h0, h1, h2, h3, h4, h5]
      exact (final9 m c).symm
    · obtain ⟨h0, h1, h2, h3, h4, h5, h6⟩ := hagree c
      rw [ref_run61, ref_run, h0, h1, h2, h3, h4, h5, h6]
      exact (final10 m c).symm

end Cert.XattnValue

end
-- ==== Proof.QkvValue.lean ====
/- The projection to queries, keys and values: the arrays the kernel leaves are the reference's. -/
module

public import proofs.«01_k».proof.Defs
public import proofs.«01_k».proof.Proof.Gen.QkvIdeal.Frame
public import proofs.«01_k».proof.Proof.Gen.QkvRefIdeal.Run
public import Idealize.ShloMosaic.Lib.Pipeline.ValueKit
public import Idealize.ShloMosaic.Lib.Pointwise
public import Idealize.ShloMosaic.Lib.Claim

@[expose] public section

set_option maxRecDepth 65536

noncomputable section

namespace Cert.QkvValue

open Idealize.ShloMosaic Idealize.ShloMosaic.TcCoe Idealize.SL.Sem
open Idealize.ShloMosaic.Pipeline (Dat)

/-- The first grid column of a column block's keys. -/
def start (n : Fin 4) : Nat := min (16 * n.val - 8) 32

theorem start_le (n : Fin 4) : start n ≤ 32 := Nat.min_le_right _ _

/-- The product at a token and a lane. -/
def prod (x : Fin 1024 → EReal) (w : Fin 1024 → Fin 3072 → EReal) (l : Fin 3072) : EReal := ∑ k : Fin 1024, x k * w k l

section
open Cert.QkvRefIdeal Cert.QkvRefIdeal.Gen

/-- The grid columns of each column block's keys. -/
def cols : IVec S4x32x1 32 := broadcastInDim S4x32x1 ![0, 1] bcast_S4x32_S4x32x1_0_1 (select (cmpi .slt (addi (broadcastInDim S4x32 ![0, 1] bcast_S4x1_S4x32_0_1 (broadcastInDim S4x1 ![0] bcast_S4_S4x1_0 (minsi (broadcastInDim S4 ![] bcast_S_S4 (id (constantI S_ 32 32#32))) (maxsi (broadcastInDim S4 ![] bcast_S_S4 (id (constantI S_ 32 0#32))) (subi (muli (iotaInDim S4 32 0) (broadcastInDim S4 ![] bcast_S_S4 (constantI S_ 32 16#32))) (broadcastInDim S4 ![] bcast_S_S4 (constantI S_ 32 8#32))))))) (broadcastInDim S4x32 ![0, 1] bcast_S1x32_S4x32_0_1 (broadcastInDim S1x32 ![1] bcast_S32_S1x32_1 (iotaInDim S32 32 0)))) (broadcastInDim S4x32 ![] bcast_S_S4x32 (constantI S_ 32 0#32))) (addi (addi (broadcastInDim S4x32 ![0, 1] bcast_S4x1_S4x32_0_1 (broadcastInDim S4x1 ![0] bcast_S4_S4x1_0 (minsi (broadcastInDim S4 ![] bcast_S_S4 (id (constantI S_ 32 32#32))) (maxsi (broadcastInDim S4 ![] bcast_S_S4 (id (constantI S_ 32 0#32))) (subi (muli (iotaInDim S4 32 0) (broadcastInDim S4 ![] bcast_S_S4 (constantI S_ 32 16#32))) (broadcastInDim S4 ![] bcast_S_S4 (constantI S_ 32 8#32))))))) (broadcastInDim S4x32 ![0, 1] bcast_S1x32_S4x32_0_1 (broadcastInDim S1x32 ![1] bcast_S32_S1x32_1 (iotaInDim S32 32 0)))) (broadcastInDim S4x32 ![] bcast_S_S4x32 (constantI S_ 32 64#32))) (addi (broadcastInDim S4x32 ![0, 1] bcast_S4x1_S4x32_0_1 (broadcastInDim S4x1 ![0] bcast_S4_S4x1_0 (minsi (broadcastInDim S4 ![] bcast_S_S4 (id (constantI S_ 32 32#32))) (maxsi (broadcastInDim S4 ![] bcast_S_S4 (id (constantI S_ 32 0#32))) (subi (muli (iotaInDim S4 32 0) (broadcastInDim S4 ![] bcast_S_S4 (constantI S_ 32 16#32))) (broadcastInDim S4 ![] bcast_S_S4 (constantI S_ 32 8#32))))))) (broadcastInDim S4x32 ![0, 1] bcast_S1x32_S4x32_0_1 (broadcastInDim S1x32 ![1] bcast_S32_S1x32_1 (iotaInDim S32 32 0)))))

/-- The reference's queries, keys and values. -/
def refQ (x : FVec Ideal S4x8192x1024 .f32) (w : FVec Ideal S1024x3072 .f32) : FVec Ideal S4x8192x1024 .bf16 :=
  truncf .bf16 (shapeCast _ (mulf (shapeCast _ (extractStridedSlice S4x128x64x1x16x64 ![0, 0, 0, 0, 0, 0] (shapeCast _ (Host.dotGeneral dot_S4x8192x1024_S1024x3072_S4x8192x3072_2_0_01_1_n_n none x w) shapeCasts_S4x8192x3072_S4x128x64x3x16x64) slices_S4x128x64x3x16x64_S4x128x64x1x16x64_0_0_0_0_0_0) shapeCasts_S4x128x64x1x16x64_S4x128x64x16x64) (broadcastInDim S4x128x64x16x64 ![] bcast_S_S4x128x64x16x64 (constant S_ .f32 0x3E000000#32))) shapeCasts_S4x128x64x16x64_S4x8192x1024) bitsLt_bf16_f32
def refK (x : FVec Ideal S4x8192x1024 .f32) (w : FVec Ideal S1024x3072 .f32) : FVec Ideal S4x128x4x32x1024 .bf16 :=
  truncf .bf16 (shapeCast _ (Host.gather gather_S4x128x64x16x64_S4x32x1_S4x128x4x32x16x64_0145_2_n_n_2_2_412811664 (shapeCast _ (extractStridedSlice S4x128x64x1x16x64 ![0, 0, 0, 1, 0, 0] (shapeCast _ (Host.dotGeneral dot_S4x8192x1024_S1024x3072_S4x8192x3072_2_0_01_1_n_n none x w) shapeCasts_S4x8192x3072_S4x128x64x3x16x64) slices_S4x128x64x3x16x64_S4x128x64x1x16x64_0_0_0_1_0_0) shapeCasts_S4x128x64x1x16x64_S4x128x64x16x64) cols) shapeCasts_S4x128x4x32x16x64_S4x128x4x32x1024) bitsLt_bf16_f32
def refV (x : FVec Ideal S4x8192x1024 .f32) (w : FVec Ideal S1024x3072 .f32) : FVec Ideal S4x128x4x32x1024 .bf16 :=
  truncf .bf16 (shapeCast _ (Host.gather gather_S4x128x64x16x64_S4x32x1_S4x128x4x32x16x64_0145_2_n_n_2_2_412811664 (shapeCast _ (extractStridedSlice S4x128x64x1x16x64 ![0, 0, 0, 2, 0, 0] (shapeCast _ (Host.dotGeneral dot_S4x8192x1024_S1024x3072_S4x8192x3072_2_0_01_1_n_n none x w) shapeCasts_S4x8192x3072_S4x128x64x3x16x64) slices_S4x128x64x3x16x64_S4x128x64x1x16x64_0_0_0_2_0_0) shapeCasts_S4x128x64x1x16x64_S4x128x64x16x64) cols) shapeCasts_S4x128x4x32x16x64_S4x128x4x32x1024) bitsLt_bf16_f32

theorem cols_at : ∀ (n : Fin 4) (j : Fin 32), (cols (ix3 n j 0)).toInt = ((start n + j.val : ℕ) : ℤ) := by
  decide +kernel

theorem lane_eq (l : Fin 1024) : (⟨l.val / 64 * 64 + l.val % 64, by omega⟩ : Fin 3072) = ⟨l.val, by omega⟩ :=
  Fin.ext (by show l.val / 64 * 64 + l.val % 64 = l.val; omega)

/-- The gather of grid columns, at an index. -/
theorem gather_at (v : FVec Ideal S4x128x64x16x64 .f32) (c : IVec S4x32x1 32) (a : Fin 4) (r : Fin 128) (n : Fin 4) (j : Fin 32) (h : Fin 16) (d : Fin 64)
    (k : Fin 64) (hk : (c (ix3 n j 0)).toInt.toNat = k.val) :
    Host.gather gather_S4x128x64x16x64_S4x32x1_S4x128x4x32x16x64_0145_2_n_n_2_2_412811664 v c (ix6 a r n j h d) = v (ix5 a r k h d) := by
  have hsi : gather_S4x128x64x16x64_S4x32x1_S4x128x4x32x16x64_0145_2_n_n_2_2_412811664.siIdx (ix6 a r n j h d) ⟨0, by decide⟩ = ix3 n j 0 := by
    funext b; refine Fin.ext ?_
    match b with
    | ⟨0, _⟩ => rfl
    | ⟨1, _⟩ => rfl
    | ⟨2, _⟩ => rfl
  unfold Host.gather
  refine congrArg v (funext fun b => Fin.ext ?_)
  match b with
  | ⟨0, _⟩ => show 0 + 0 + a.val = a.val; omega
  | ⟨1, _⟩ => show 0 + 0 + r.val = r.val; omega
  | ⟨2, _⟩ =>
    show min (c (gather_S4x128x64x16x64_S4x32x1_S4x128x4x32x16x64_0145_2_n_n_2_2_412811664.siIdx (ix6 a r n j h d) ⟨0, by decide⟩)).toInt.toNat (64 - 1) + 0 + 0 = k.val
    rw [hsi, hk]; omega
  | ⟨3, _⟩ => show 0 + 0 + h.val = h.val; omega
  | ⟨4, _⟩ => show 0 + 0 + d.val = d.val; omega

/-- The keys and values before their columns are taken, at an index. -/
def parts (o : Nat) (ho : S4x128x64x3x16x64.Slices ![0, 0, 0, o, 0, 0] S4x128x64x1x16x64) (x : FVec Ideal S4x8192x1024 .f32) (w : FVec Ideal S1024x3072 .f32) : FVec Ideal S4x128x64x16x64 .f32 :=
  shapeCast _ (extractStridedSlice S4x128x64x1x16x64 ![0, 0, 0, o, 0, 0] (shapeCast _ (Host.dotGeneral dot_S4x8192x1024_S1024x3072_S4x8192x3072_2_0_01_1_n_n none x w) shapeCasts_S4x8192x3072_S4x128x64x3x16x64) ho) shapeCasts_S4x128x64x1x16x64_S4x128x64x16x64

theorem refQ_at (x : FVec Ideal S4x8192x1024 .f32) (w : FVec Ideal S1024x3072 .f32) (a : Fin 4) (r : Fin 8192) (l : Fin 1024) :
    refQ x w (ix3 a r l) = prod (fun k => x (ix3 a r k)) (fun k l => w (ix2 k l)) ⟨l.val, by omega⟩ * Ideal.ofBits .f32 0x3E000000#32 := by
  pointwise [refQ, prod]
  rw [lane_eq]

theorem partsK_at (x : FVec Ideal S4x8192x1024 .f32) (w : FVec Ideal S1024x3072 .f32) (a : Fin 4) (r : Fin 128) (c : Fin 64) (l : Fin 1024) :
    parts 1 slices_S4x128x64x3x16x64_S4x128x64x1x16x64_0_0_0_1_0_0 x w (ix5 a r c ⟨l.val / 64, by omega⟩ ⟨l.val % 64, by omega⟩)
      = prod (fun k => x (ix3 a ⟨r.val * 64 + c.val, by omega⟩ k)) (fun k l => w (ix2 k l)) ⟨1024 + l.val, by omega⟩ := by
  pointwise [parts, prod]
  rw [show (⟨1024 + l.val / 64 * 64 + l.val % 64, by omega⟩ : Fin 3072) = ⟨1024 + l.val, by omega⟩ from Fin.ext (by show 1024 + l.val / 64 * 64 + l.val % 64 = 1024 + l.val; omega)]

theorem refK_at (x : FVec Ideal S4x8192x1024 .f32) (w : FVec Ideal S1024x3072 .f32) (a : Fin 4) (r : Fin 128) (n : Fin 4) (j : Fin 32) (l : Fin 1024) :
    refK x w (ix5 a r n j l) = prod (fun k => x (ix3 a ⟨r.val * 64 + (start n + j.val), by have := start_le n; omega⟩ k)) (fun k l => w (ix2 k l)) ⟨1024 + l.val, by omega⟩ := by
  have e : refK x w (ix5 a r n j l) = Host.gather gather_S4x128x64x16x64_S4x32x1_S4x128x4x32x16x64_0145_2_n_n_2_2_412811664
      (parts 1 slices_S4x128x64x3x16x64_S4x128x64x1x16x64_0_0_0_1_0_0 x w) cols (ix6 a r n j ⟨l.val / 64, by omega⟩ ⟨l.val % 64, by omega⟩) := by
    unfold refK
    pointwise [parts]
  rw [e, gather_at _ _ a r n j _ _ ⟨start n + j.val, by have := start_le n; omega⟩ (by rw [cols_at]; exact Int.toNat_natCast _)]
  exact partsK_at x w a r _ l

theorem partsV_at (x : FVec Ideal S4x8192x1024 .f32) (w : FVec Ideal S1024x3072 .f32) (a : Fin 4) (r : Fin 128) (c : Fin 64) (l : Fin 1024) :
    parts 2 slices_S4x128x64x3x16x64_S4x128x64x1x16x64_0_0_0_2_0_0 x w (ix5 a r c ⟨l.val / 64, by omega⟩ ⟨l.val % 64, by omega⟩)
      = prod (fun k => x (ix3 a ⟨r.val * 64 + c.val, by omega⟩ k)) (fun k l => w (ix2 k l)) ⟨2048 + l.val, by omega⟩ := by
  pointwise [parts, prod]
  rw [show (⟨2048 + l.val / 64 * 64 + l.val % 64, by omega⟩ : Fin 3072) = ⟨2048 + l.val, by omega⟩ from Fin.ext (by show 2048 + l.val / 64 * 64 + l.val % 64 = 2048 + l.val; omega)]

theorem refV_at (x : FVec Ideal S4x8192x1024 .f32) (w : FVec Ideal S1024x3072 .f32) (a : Fin 4) (r : Fin 128) (n : Fin 4) (j : Fin 32) (l : Fin 1024) :
    refV x w (ix5 a r n j l) = prod (fun k => x (ix3 a ⟨r.val * 64 + (start n + j.val), by have := start_le n; omega⟩ k)) (fun k l => w (ix2 k l)) ⟨2048 + l.val, by omega⟩ := by
  have e : refV x w (ix5 a r n j l) = Host.gather gather_S4x128x64x16x64_S4x32x1_S4x128x4x32x16x64_0145_2_n_n_2_2_412811664
      (parts 2 slices_S4x128x64x3x16x64_S4x128x64x1x16x64_0_0_0_2_0_0 x w) cols (ix6 a r n j ⟨l.val / 64, by omega⟩ ⟨l.val % 64, by omega⟩) := by
    unfold refV
    pointwise [parts]
  rw [e, gather_at _ _ a r n j _ _ ⟨start n + j.val, by have := start_le n; omega⟩ (by rw [cols_at]; exact Int.toNat_natCast _)]
  exact partsV_at x w a r _ l

end

section
open Cert.QkvIdeal Cert.QkvIdeal.Gen

variable (m : (ℓ : Loc nD τ sig) → Buf (Elt Ideal) ℓ)

/-- Each tile of keys the block stores is a slice of one product. -/
theorem out3_at (x : FVec Ideal S1x512x1024 .f32) (w : FVec Ideal S1024x3072 .bf16) (y : S1x8x4x32x1024.Idx) (i : S512x1024.Idx)
    (hi0 : (i 0 : ℕ) = (y 1 : ℕ) * 64 + min (16 * (y 2 : ℕ) - 8) 32 + (y 3 : ℕ)) (hi1 : (i 1 : ℕ) = (y 4 : ℕ)) :
    out0_3 (F := Ideal) x w y = k0_pay4 (F := Ideal) x w i := by
  canon_tiles x' h

  all_goals (open_payloads; pointwise; blk_ext)

/-- Each tile of values, likewise. -/
theorem out4_at (x : FVec Ideal S1x512x1024 .f32) (w : FVec Ideal S1024x3072 .bf16) (y : S1x8x4x32x1024.Idx) (i : S512x1024.Idx)
    (hi0 : (i 0 : ℕ) = (y 1 : ℕ) * 64 + min (16 * (y 2 : ℕ) - 8) 32 + (y 3 : ℕ)) (hi1 : (i 1 : ℕ) = (y 4 : ℕ)) :
    out0_4 (F := Ideal) x w y = k0_pay5 (F := Ideal) x w i := by
  canon_tiles x' h

  all_goals (open_payloads; pointwise; blk_ext)

/-- The products at an index. -/
theorem pay4_at (x : FVec Ideal S1x512x1024 .f32) (w : FVec Ideal S1024x3072 .bf16) (r : Fin 512) (l : Fin 1024) :
    k0_pay4 (F := Ideal) x w (ix2 r l) = prod (fun k => x (ix3 0 r k)) (fun k l => w (ix2 k l)) ⟨1024 + l.val, by omega⟩ := by
  pointwise [k0_pay4, k0_pay2, prod]
theorem pay5_at (x : FVec Ideal S1x512x1024 .f32) (w : FVec Ideal S1024x3072 .bf16) (r : Fin 512) (l : Fin 1024) :
    k0_pay5 (F := Ideal) x w (ix2 r l) = prod (fun k => x (ix3 0 r k)) (fun k l => w (ix2 k l)) ⟨2048 + l.val, by omega⟩ := by
  pointwise [k0_pay5, k0_pay2, prod]
theorem pay3_at (x : FVec Ideal S1x512x1024 .f32) (w : FVec Ideal S1024x3072 .bf16) (r : Fin 512) (l : Fin 1024) :
    k0_pay3 (F := Ideal) x w (ix3 0 r l) = prod (fun k => x (ix3 0 r k)) (fun k l => w (ix2 k l)) ⟨l.val, by omega⟩ * Ideal.ofBits .f32 0x3E000000#32 := by
  pointwise [k0_pay3, k0_pay2, prod]

/-- The block's results at an index. -/
theorem out2_ix (x : FVec Ideal S1x512x1024 .f32) (w : FVec Ideal S1024x3072 .bf16) (r : Fin 512) (l : Fin 1024) :
    out0_2 (F := Ideal) x w (ix3 0 r l) = prod (fun k => x (ix3 0 r k)) (fun k l => w (ix2 k l)) ⟨l.val, by omega⟩ * Ideal.ofBits .f32 0x3E000000#32 := by
  frame_out
  exact pay3_at x w r l

/-- The block row of a key. -/
def krow (r : Fin 8) (n : Fin 4) (j : Fin 32) : Fin 512 := ⟨r.val * 64 + start n + j.val, by have := start_le n; omega⟩

theorem out3_ix (x : FVec Ideal S1x512x1024 .f32) (w : FVec Ideal S1024x3072 .bf16) (r : Fin 8) (n : Fin 4) (j : Fin 32) (l : Fin 1024) :
    out0_3 (F := Ideal) x w (ix5 0 r n j l) = prod (fun k => x (ix3 0 (krow r n j) k)) (fun k l => w (ix2 k l)) ⟨1024 + l.val, by omega⟩ :=
  (out3_at x w (ix5 0 r n j l) (ix2 (krow r n j) l) rfl rfl).trans (pay4_at x w _ l)
theorem out4_ix (x : FVec Ideal S1x512x1024 .f32) (w : FVec Ideal S1024x3072 .bf16) (r : Fin 8) (n : Fin 4) (j : Fin 32) (l : Fin 1024) :
    out0_4 (F := Ideal) x w (ix5 0 r n j l) = prod (fun k => x (ix3 0 (krow r n j) k)) (fun k l => w (ix2 k l)) ⟨2048 + l.val, by omega⟩ :=
  (out4_at x w (ix5 0 r n j l) (ix2 (krow r n j) l) rfl rfl).trans (pay5_at x w _ l)

/-- The windows' block indices at every grid point. -/
theorem idx : ∀ t : Fin cfg0.N, win0_0.index t = ![t.val / 16, t.val % 16, 0] ∧ win0_1.index t = ![0, 0]
    ∧ win0_2.index t = ![t.val / 16, t.val % 16, 0] ∧ win0_3.index t = ![t.val / 16, t.val % 16, 0, 0, 0] ∧ win0_4.index t = ![t.val / 16, t.val % 16, 0, 0, 0] :=
  (by decide +kernel : ∀ t : Fin grid0.N, _)

theorem lt_points (t : Fin cfg0.N) : t.val < 64 := t.isLt

/-- The batch of a point. -/
def bat (t : Fin cfg0.N) : Fin 4 := ⟨t.val / 16, by have := lt_points t; omega⟩
/-- The array row of a block's row. -/
def row (t : Fin cfg0.N) (r : Fin 512) : Fin 8192 := ⟨t.val % 16 * 512 + r, by omega⟩
/-- The grid row of a block's grid row. -/
def grow (t : Fin cfg0.N) (r : Fin 8) : Fin 128 := ⟨t.val % 16 * 8 + r, by omega⟩

theorem V_w (c : Dev nD) : V m c main_v0
    = (truncf .bf16 (show FVec Ideal S1024x3072 .f32 from m ((c : Thread nD τ).loc main_arg1)) bitsLt_bf16_f32 : FVec Ideal S1024x3072 .bf16) := by
  entry_read; rfl

theorem x_at (c : Dev nD) (t : Fin cfg0.N) (r : Fin 512) (k : Fin 1024) :
    (show FVec Ideal S1x512x1024 .f32 from iblk m c 0 t) (ix3 0 r k)
      = (show FVec Ideal S4x8192x1024 .f32 from m ((c : Thread nD τ).loc main_arg0)) (ix3 (bat t) (row t r) k) := by
  have e : (show FVec Ideal S1x512x1024 .f32 from iblk m c 0 t) (ix3 0 r k)
      = (show FVec Ideal S4x8192x1024 .f32 from V m c main_arg0) (ix3 (bat t) (row t r) k) := by
    blk_ext [iblk, idx t, row, bat]
  exact e.trans (congrFun (V_main_arg0 m c) _)

theorem w_at (c : Dev nD) (t : Fin cfg0.N) (k : Fin 1024) (l : Fin 3072) :
    (show FVec Ideal S1024x3072 .bf16 from iblk m c 1 t) (ix2 k l)
      = (show FVec Ideal S1024x3072 .f32 from m ((c : Thread nD τ).loc main_arg1)) (ix2 k l) := by
  have e : (show FVec Ideal S1024x3072 .bf16 from iblk m c 1 t) (ix2 k l)
      = (show FVec Ideal S1024x3072 .bf16 from V m c main_v0) (ix2 k l) := by
    blk_ext [iblk, idx t]
  exact e.trans (congrFun (V_w m c) _)

/-- A point's products are the array's. -/
theorem prod_at (c : Dev nD) (t : Fin cfg0.N) (r : Fin 512) (l : Fin 3072) :
    prod (fun k => (show FVec Ideal S1x512x1024 .f32 from iblk m c 0 t) (ix3 0 r k)) (fun k l => (show FVec Ideal S1024x3072 .bf16 from iblk m c 1 t) (ix2 k l)) l
      = prod (fun k => (show FVec Ideal S4x8192x1024 .f32 from m ((c : Thread nD τ).loc main_arg0)) (ix3 (bat t) (row t r) k))
          (fun k l => (show FVec Ideal S1024x3072 .f32 from m ((c : Thread nD τ).loc main_arg1)) (ix2 k l)) l := by
  have hx := funext fun k => x_at m c t r k
  have hw := funext fun k => funext fun l => w_at m c t k l
  exact congrFun (congrArg₂ prod hx hw) l

/-- What a point stores is the reference at the array index of the same place. -/
theorem point2 (c : Dev nD) (t : Fin cfg0.N) (r : Fin 512) (l : Fin 1024) :
    out0_2 (F := Ideal) (iblk m c 0 t) (iblk m c 1 t) (ix3 0 r l) = refQ (m ((c : Thread nD τ).loc main_arg0)) (m ((c : Thread nD τ).loc main_arg1)) (ix3 (bat t) (row t r) l) := by
  refine (out2_ix _ _ r l).trans (Eq.trans ?_ (refQ_at _ _ _ _ l).symm)
  exact congrArg (· * Ideal.ofBits .f32 0x3E000000#32) (prod_at m c t r _)

theorem krow_eq (t : Fin cfg0.N) (r : Fin 8) (n : Fin 4) (j : Fin 32) :
    (⟨(grow t r).val * 64 + (start n + j.val), by have := start_le n; omega⟩ : Fin 8192) = row t (krow r n j) :=
  Fin.ext (by show (t.val % 16 * 8 + r.val) * 64 + (start n + j.val) = t.val % 16 * 512 + (r.val * 64 + start n + j.val); omega)

theorem point3 (c : Dev nD) (t : Fin cfg0.N) (r : Fin 8) (n : Fin 4) (j : Fin 32) (l : Fin 1024) :
    out0_3 (F := Ideal) (iblk m c 0 t) (iblk m c 1 t) (ix5 0 r n j l) = refK (m ((c : Thread nD τ).loc main_arg0)) (m ((c : Thread nD τ).loc main_arg1)) (ix5 (bat t) (grow t r) n j l) := by
  refine (out3_ix _ _ r n j l).trans (Eq.trans ?_ (refK_at _ _ _ _ n j l).symm)
  rw [krow_eq]
  exact prod_at m c t _ _

theorem point4 (c : Dev nD) (t : Fin cfg0.N) (r : Fin 8) (n : Fin 4) (j : Fin 32) (l : Fin 1024) :
    out0_4 (F := Ideal) (iblk m c 0 t) (iblk m c 1 t) (ix5 0 r n j l) = refV (m ((c : Thread nD τ).loc main_arg0)) (m ((c : Thread nD τ).loc main_arg1)) (ix5 (bat t) (grow t r) n j l) := by
  refine (out4_ix _ _ r n j l).trans (Eq.trans ?_ (refV_at _ _ _ _ n j l).symm)
  rw [krow_eq]
  exact prod_at m c t _ _

/-- The result arrays after the run. -/
theorem final2 (c : Dev nD) : (dats m 0 c).arrAt 2 (cfgs 0).N = refQ (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain rfl : y0 = 0 := Subsingleton.elim _ _
  refine (point2 m c t y1 y2).trans (congrArg _ ?_)
  blk_ext [idx t, row, bat]

theorem final3 (c : Dev nD) : (dats m 0 c).arrAt 3 (cfgs 0).N = refK (m ((c : Thread nD τ).loc main_arg0)) (m ((c : Thread nD τ).loc main_arg1)) := by
  refine (dats m 0 c).arrAt_eq_of_covers 3 _ (by decide +kernel) fun t _ y => ?_
  blk_simp
  rw [after0_3]
  idx_vars y
  obtain rfl : y0 = 0 := Subsingleton.elim _ _
  refine (point3 m c t y1 y2 y3 y4).trans (congrArg _ ?_)
  blk_ext [idx t, grow, bat]

theorem final4 (c : Dev nD) : (dats m 0 c).arrAt 4 (cfgs 0).N = refV (m ((c : Thread nD τ).loc main_arg0)) (m ((c : Thread nD τ).loc main_arg1)) := by
  refine (dats m 0 c).arrAt_eq_of_covers 4 _ (by decide +kernel) fun t _ y => ?_
  blk_simp
  rw [after0_4]
  idx_vars y
  obtain rfl : y0 = 0 := Subsingleton.elim _ _
  refine (point4 m c t y1 y2 y3 y4).trans (congrArg _ ?_)
  blk_ext [idx t, grow, bat]

end

/-- The two programs end with the same arrays. -/
theorem algebraic : Cert.algebraic_QkvIdeal_QkvRefIdeal := by
  pair_intro
  · run_from Cert.QkvIdeal.Gen.run_main m g
  · run_from Cert.QkvRefIdeal.Value.run m' g'
    · exact (final2 m c).symm
    · exact (final3 m c).symm
    · exact (final4 m c).symm

end Cert.QkvValue

end
-- ==== Proof.OutLnValue.lean ====
/- The output projection of the neighbourhood attention with its residual and layer norm: the array the kernel leaves is the reference's. -/
module

public import proofs.«01_k».proof.Defs
public import proofs.«01_k».proof.Proof.Gen.OutLnIdeal.Frame
public import proofs.«01_k».proof.Proof.Gen.OutLnRefIdeal.Run
public import Idealize.ShloMosaic.Lib.Pipeline.ValueKit
public import Idealize.ShloMosaic.Lib.Pointwise
public import Idealize.ShloMosaic.Lib.Claim
public import proofs.«01_k».proof.Proof.LayerNorm

@[expose] public section

set_option maxRecDepth 16384

noncomputable section

namespace Cert.OutLnValue

open Idealize.ShloMosaic Idealize.ShloMosaic.TcCoe Idealize.SL.Sem
open Idealize.ShloMosaic.Pipeline (Dat)
open Cert.OutLnIdeal Cert.OutLnIdeal.Gen

variable (m : (ℓ : Loc nD τ sig) → Buf (Elt Ideal) ℓ)

/-- The block's rows at an index. -/
theorem pay_at (o : FVec Ideal S512x1024 .bf16) (w : FVec Ideal S1024x1024 .bf16) (x : FVec Ideal S512x1024 .f32)
    (g b : FVec Ideal S1x1024 .f32) (r : Fin 512) (l : Fin 1024) :
    k0_pay1 (F := Ideal) o w x g b (ix2 r l)
      = LayerNorm.norm (LayerNorm.resid (fun k => o (ix2 r k)) (fun k => x (ix2 r k)) (fun k l => w (ix2 k l)))
          (fun k => g (ix2 0 k)) (fun k => b (ix2 0 k)) l := by
  pointwise [k0_pay1, LayerNorm.norm, LayerNorm.unitRow, LayerNorm.mean, LayerNorm.resid]

theorem out_at (o : FVec Ideal S512x1024 .bf16) (x : FVec Ideal S512x1024 .f32) (w : FVec Ideal S1024x1024 .bf16)
    (g b : FVec Ideal S1x1024 .f32) (r : Fin 512) (l : Fin 1024) :
    out0_5 (F := Ideal) o x w g b (ix2 r l)
      = LayerNorm.norm (LayerNorm.resid (fun k => o (ix2 r k)) (fun k => x (ix2 r k)) (fun k l => w (ix2 k l)))
          (fun k => g (ix2 0 k)) (fun k => b (ix2 0 k)) l := by
  frame_out
  exact pay_at o w x g b r l

section
open Cert.OutLnRefIdeal Cert.OutLnRefIdeal.Gen

/-- The reference's rows before the norm. -/
def refRows (o : FVec Ideal Cert.OutLnRefIdeal.S4x128x4x16x1024 .bf16) (x : FVec Ideal Cert.OutLnRefIdeal.S4x8192x1024 .f32)
    (w : FVec Ideal Cert.OutLnRefIdeal.S1024x1024 .f32) : FVec Ideal Cert.OutLnRefIdeal.S4x8192x1024 .f32 :=
  addf (mulf (broadcastInDim Cert.OutLnRefIdeal.S4x8192x1024 ![] Cert.OutLnRefIdeal.Gen.bcast_S_S4x8192x1024 (constant Cert.OutLnRefIdeal.S_ .f32 0x3FB504F3#32)) x)
    (Host.dotGeneral Cert.OutLnRefIdeal.dot_S4x8192x1024_S1024x1024_S4x8192x1024_2_0_01_1_n_n none
      (shapeCast Cert.OutLnRefIdeal.S4x8192x1024 (extf .f32 o Cert.OutLnRefIdeal.Gen.bitsLt_bf16_f32) Cert.OutLnRefIdeal.Gen.shapeCasts_S4x128x4x16x1024_S4x8192x1024) w)

/-- The reference's result as a term over its five arguments. -/
def ref (o : FVec Ideal Cert.OutLnRefIdeal.S4x128x4x16x1024 .bf16) (x : FVec Ideal Cert.OutLnRefIdeal.S4x8192x1024 .f32)
    (w : FVec Ideal Cert.OutLnRefIdeal.S1024x1024 .f32) (g b : FVec Ideal Cert.OutLnRefIdeal.S1024 .f32) :
    FVec Ideal Cert.OutLnRefIdeal.S32768x1024 .f32 :=
  shapeCast _ (LayerNorm.norms (refRows o x w) g b) Cert.OutLnRefIdeal.Gen.shapeCasts_S4x8192x1024_S32768x1024

/-- The token of a flattened row: its batch, its grid row, its column block and its column. -/
def tok (r : Fin 32768) (k : Fin 1024) : Cert.OutLnRefIdeal.S4x128x4x16x1024.Idx :=
  ix5 ⟨r / 8192, by omega⟩ ⟨r / 64 % 128, by omega⟩ ⟨r / 16 % 4, by omega⟩ ⟨r % 16, by omega⟩ k

theorem refRows_at (o : FVec Ideal Cert.OutLnRefIdeal.S4x128x4x16x1024 .bf16) (x : FVec Ideal Cert.OutLnRefIdeal.S4x8192x1024 .f32)
    (w : FVec Ideal Cert.OutLnRefIdeal.S1024x1024 .f32) (a : Fin 4) (r : Fin 8192) (l : Fin 1024) :
    refRows o x w (ix3 a r l)
      = LayerNorm.resid (fun k => o (ix5 a ⟨r / 64, by omega⟩ ⟨r / 16 % 4, by omega⟩ ⟨r % 16, by omega⟩ k)) (fun k => x (ix3 a r k)) (fun k l => w (ix2 k l)) l := by
  pointwise [refRows, LayerNorm.resid]

theorem ref_at (o : FVec Ideal Cert.OutLnRefIdeal.S4x128x4x16x1024 .bf16) (x : FVec Ideal Cert.OutLnRefIdeal.S4x8192x1024 .f32)
    (w : FVec Ideal Cert.OutLnRefIdeal.S1024x1024 .f32) (g b : FVec Ideal Cert.OutLnRefIdeal.S1024 .f32) (r : Fin 32768) (l : Fin 1024) :
    ref o x w g b (ix2 r l)
      = LayerNorm.norm (LayerNorm.resid (fun k => o (tok r k)) (fun k => x (ix3 ⟨r / 8192, by omega⟩ ⟨r % 8192, by omega⟩ k)) (fun k l => w (ix2 k l)))
          (fun k => g (ix1 k)) (fun k => b (ix1 k)) l := by
  have e : ref o x w g b (ix2 r l) = LayerNorm.norms (refRows o x w) g b (ix3 ⟨r / 8192, by omega⟩ ⟨r % 8192, by omega⟩ l) := by
    pointwise [ref]
  rw [e, LayerNorm.norms_at]
  have z : (fun k => refRows o x w (ix3 ⟨r / 8192, by omega⟩ ⟨r % 8192, by omega⟩ k))
      = LayerNorm.resid (fun k => o (tok r k)) (fun k => x (ix3 ⟨r / 8192, by omega⟩ ⟨r % 8192, by omega⟩ k)) (fun k l => w (ix2 k l)) := by
    funext l
    rw [refRows_at]
    have t : ∀ k, ix5 (⟨r / 8192, by omega⟩ : Fin 4) (⟨r % 8192 / 64, by omega⟩ : Fin 128) (⟨r % 8192 / 16 % 4, by omega⟩ : Fin 4) (⟨r % 8192 % 16, by omega⟩ : Fin 16) k = tok r k := by
      intro k
      have h0 : r.val % 8192 / 64 = r.val / 64 % 128 := by omega
      have h1 : r.val % 8192 / 16 % 4 = r.val / 16 % 4 := by omega
      have h2 : r.val % 8192 % 16 = r.val % 16 := by omega
      simp only [tok, h0, h1, h2]
    simp only [t]
  rw [z]

end

/-- The windows' block indices at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

theorem lt_points (t : Fin cfg0.N) : t.val < 64 := t.isLt

/-- The operands at the kernel's start. -/
theorem V_o (c : Dev nD) : V m c main_v0
    = shapeCast S32768x1024 (m ((c : Thread nD τ).loc main_arg0)) shapeCasts_S4x128x4x16x1024_S32768x1024 := by
  entry_read; rfl
theorem V_x (c : Dev nD) : V m c main_v1
    = shapeCast S32768x1024 (m ((c : Thread nD τ).loc main_arg1)) shapeCasts_S4x8192x1024_S32768x1024 := by
  entry_read; rfl
theorem V_w (c : Dev nD) : V m c main_v2
    = (truncf .bf16 (show FVec Ideal S1024x1024 .f32 from m ((c : Thread nD τ).loc main_arg2)) bitsLt_bf16_f32 : FVec Ideal S1024x1024 .bf16) := by
  entry_read; rfl
theorem V_g (c : Dev nD) : V m c main_v3
    = shapeCast S1x1024 (m ((c : Thread nD τ).loc main_arg3)) shapeCasts_S1024_S1x1024 := by
  entry_read; rfl
theorem V_b (c : Dev nD) : V m c main_v4
    = shapeCast S1x1024 (m ((c : Thread nD τ).loc main_arg4)) shapeCasts_S1024_S1x1024 := by
  entry_read; rfl

/-- Flattened operands, at an index. -/
theorem flat_o (o : FVec Ideal S4x128x4x16x1024 .bf16) (r : Fin 32768) (k : Fin 1024) :
    shapeCast S32768x1024 o shapeCasts_S4x128x4x16x1024_S32768x1024 (ix2 r k) = o (tok r k) := by
  pointwise
  rfl
theorem flat_x (x : FVec Ideal S4x8192x1024 .f32) (r : Fin 32768) (k : Fin 1024) :
    shapeCast S32768x1024 x shapeCasts_S4x8192x1024_S32768x1024 (ix2 r k) = x (ix3 ⟨r / 8192, by omega⟩ ⟨r % 8192, by omega⟩ k) := by
  pointwise
theorem flat_g (g : FVec Ideal S1024 .f32) (k : Fin 1024) :
    shapeCast S1x1024 g shapeCasts_S1024_S1x1024 (ix2 0 k) = g (ix1 k) := by
  pointwise

/-- The array row of a block's row. -/
def row (t : Fin cfg0.N) (r : Fin 512) : Fin 32768 := ⟨t.val * 512 + r, by have := lt_points t; omega⟩

theorem o_at (c : Dev nD) (t : Fin cfg0.N) (r : Fin 512) (k : Fin 1024) :
    (show FVec Ideal S512x1024 .bf16 from iblk m c 0 t) (ix2 r k)
      = (show FVec Ideal S4x128x4x16x1024 .bf16 from m ((c : Thread nD τ).loc main_arg0)) (tok (row t r) k) := by
  have e : (show FVec Ideal S512x1024 .bf16 from iblk m c 0 t) (ix2 r k)
      = (show FVec Ideal S32768x1024 .bf16 from V m c main_v0) (ix2 (row t r) k) := by
    blk_ext [iblk, idx t, row]
  exact e.trans ((congrFun (V_o m c) _).trans (flat_o _ _ k))

theorem x_at (c : Dev nD) (t : Fin cfg0.N) (r : Fin 512) (k : Fin 1024) :
    (show FVec Ideal S512x1024 .f32 from iblk m c 1 t) (ix2 r k)
      = (show FVec Ideal S4x8192x1024 .f32 from m ((c : Thread nD τ).loc main_arg1))
          (ix3 ⟨row t r / 8192, by omega⟩ ⟨row t r % 8192, by omega⟩ k) := by
  have e : (show FVec Ideal S512x1024 .f32 from iblk m c 1 t) (ix2 r k)
      = (show FVec Ideal S32768x1024 .f32 from V m c main_v1) (ix2 (row t r) k) := by
    blk_ext [iblk, idx t, row]
  exact e.trans ((congrFun (V_x m c) _).trans (flat_x _ _ k))

theorem w_at (c : Dev nD) (t : Fin cfg0.N) (k l : Fin 1024) :
    (show FVec Ideal S1024x1024 .bf16 from iblk m c 2 t) (ix2 k l)
      = (show FVec Ideal S1024x1024 .f32 from m ((c : Thread nD τ).loc main_arg2)) (ix2 k l) := by
  have e : (show FVec Ideal S1024x1024 .bf16 from iblk m c 2 t) (ix2 k l)
      = (show FVec Ideal S1024x1024 .bf16 from V m c main_v2) (ix2 k l) := by
    blk_ext [iblk, idx t]
  exact e.trans (congrFun (V_w m c) _)

theorem g_at (c : Dev nD) (t : Fin cfg0.N) (k : Fin 1024) :
    (show FVec Ideal S1x1024 .f32 from iblk m c 3 t) (ix2 0 k)
      = (show FVec Ideal S1024 .f32 from m ((c : Thread nD τ).loc main_arg3)) (ix1 k) := by
  have e : (show FVec Ideal S1x1024 .f32 from iblk m c 3 t) (ix2 0 k)
      = (show FVec Ideal S1x1024 .f32 from V m c main_v3) (ix2 0 k) := by
    blk_ext [iblk, idx t]
  exact e.trans ((congrFun (V_g m c) _).trans (flat_g _ k))

theorem b_at (c : Dev nD) (t : Fin cfg0.N) (k : Fin 1024) :
    (show FVec Ideal S1x1024 .f32 from iblk m c 4 t) (ix2 0 k)
      = (show FVec Ideal S1024 .f32 from m ((c : Thread nD τ).loc main_arg4)) (ix1 k) := by
  have e : (show FVec Ideal S1x1024 .f32 from iblk m c 4 t) (ix2 0 k)
      = (show FVec Ideal S1x1024 .f32 from V m c main_v4) (ix2 0 k) := by
    blk_ext [iblk, idx t]
  exact e.trans ((congrFun (V_b m c) _).trans (flat_g _ k))

/-- What a point stores is the reference at the array index of the same place. -/
theorem point (c : Dev nD) (t : Fin cfg0.N) (r : Fin 512) (l : Fin 1024) :
    out0_5 (F := Ideal) (iblk m c 0 t) (iblk m c 1 t) (iblk m c 2 t) (iblk m c 3 t) (iblk m c 4 t) (ix2 r l)
      = ref (m ((c : Thread nD τ).loc main_arg0)) (m ((c : Thread nD τ).loc main_arg1)) (m ((c : Thread nD τ).loc main_arg2))
          (m ((c : Thread nD τ).loc main_arg3)) (m ((c : Thread nD τ).loc main_arg4)) (ix2 (row t r) l) := by
  refine (out_at _ _ _ _ _ r l).trans (Eq.trans ?_ (ref_at _ _ _ _ _ _ l).symm)
  have ho := funext fun k => o_at m c t r k
  have hx := funext fun k => x_at m c t r k
  have hw := funext fun k => funext fun l => w_at m c t k l
  have hg := funext fun k => g_at m c t k
  have hb := funext fun k => b_at m c t k
  exact congrFun (congr (congrArg₂ LayerNorm.norm (congr (congrArg₂ LayerNorm.resid ho hx) hw) hg) hb) l

/-- The result array after the run. -/
theorem final (c : Dev nD) : (dats m 0 c).arrAt 5 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  refine (point m c t y0 y1).trans (congrArg _ ?_)
  blk_ext [idx t, row]

/-- The reference's run leaves that term. -/
theorem ref_run (n : (ℓ : Loc Cert.OutLnRefIdeal.nD Cert.OutLnRefIdeal.τ Cert.OutLnRefIdeal.sig) → Buf (Elt Ideal) ℓ) (c : Dev Cert.OutLnRefIdeal.nD) :
    Cert.OutLnRefIdeal.Value.res_main_v30 n c = ref (n ((c.tc : Thread Cert.OutLnRefIdeal.nD Cert.OutLnRefIdeal.τ).loc Cert.OutLnRefIdeal.main_arg0)) (n ((c.tc : Thread Cert.OutLnRefIdeal.nD Cert.OutLnRefIdeal.τ).loc Cert.OutLnRefIdeal.main_arg1)) (n ((c.tc : Thread Cert.OutLnRefIdeal.nD Cert.OutLnRefIdeal.τ).loc Cert.OutLnRefIdeal.main_arg2)) (n ((c.tc : Thread Cert.OutLnRefIdeal.nD Cert.OutLnRefIdeal.τ).loc Cert.OutLnRefIdeal.main_arg3)) (n ((c.tc : Thread Cert.OutLnRefIdeal.nD Cert.OutLnRefIdeal.τ).loc Cert.OutLnRefIdeal.main_arg4)) := rfl

/-- The two programs end with the same array. -/
theorem algebraic : Cert.algebraic_OutLnIdeal_OutLnRefIdeal := by
  pair_intro
  · run_from Cert.OutLnIdeal.Gen.run_main m g
  · run_from Cert.OutLnRefIdeal.Value.run m' g'
    obtain ⟨h0, h1, h2, h3, h4⟩ := hagree c
    rw [ref_run, h0, h1, h2, h3, h4]
    exact (final m c).symm

end Cert.OutLnValue

end
-- ==== Proof.MemKvValue.lean ====
/- The projection of the memory tokens to keys and values: the array the kernel leaves is the reference's product. -/
module

public import proofs.«01_k».proof.Defs
public import proofs.«01_k».proof.Proof.Gen.MemKvIdeal.Frame
public import proofs.«01_k».proof.Proof.Gen.MemKvRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MemKvValue

open Idealize.ShloMosaic Idealize.ShloMosaic.TcCoe Idealize.SL.Sem
open Idealize.ShloMosaic.Pipeline (Dat)
open Cert.MemKvIdeal Cert.MemKvIdeal.Gen

variable (m : (ℓ : Loc nD τ sig) → Buf (Elt Ideal) ℓ)

/-- The reference's result as a term over its two arguments. -/
def ref (x : FVec Ideal Cert.MemKvRefIdeal.S4x256x1024 .f32) (w : FVec Ideal Cert.MemKvRefIdeal.S1024x2048 .f32) :
    FVec Ideal Cert.MemKvRefIdeal.S1024x2048 .bf16 :=
  truncf .bf16 (shapeCast _ (Host.dotGeneral Cert.MemKvRefIdeal.dot_S4x256x1024_S1024x2048_S4x256x2048_2_0_01_1_n_n none x w)
    Cert.MemKvRefIdeal.Gen.shapeCasts_S4x256x2048_S1024x2048) Cert.MemKvRefIdeal.Gen.bitsLt_bf16_f32

/-- The windows' block indices at every grid point. -/
theorem idx : ∀ t : Fin cfg0.N, win0_0.index t = ![t.val, 0] ∧ win0_1.index t = ![0, 0] ∧ win0_2.index t = ![t.val, 0] :=
  (by decide +kernel : ∀ t : Fin grid0.N, _)

/-- The block product at an index. -/
theorem pay_at (x : FVec Ideal S512x1024 .f32) (w : FVec Ideal S1024x2048 .bf16) (r : Fin 512) (l : Fin 2048) :
    k0_pay1 (F := Ideal) x w (ix2 r l) = ∑ k : Fin 1024, x (ix2 r k) * w (ix2 k l) := by
  pointwise [k0_pay1]

/-- The reference at an index. -/
theorem ref_at (x : FVec Ideal Cert.MemKvRefIdeal.S4x256x1024 .f32) (w : FVec Ideal Cert.MemKvRefIdeal.S1024x2048 .f32)
    (r : Fin 1024) (l : Fin 2048) :
    ref x w (ix2 r l) = ∑ k : Fin 1024, x (ix3 ⟨r / 256, by omega⟩ ⟨r % 256, by omega⟩ k) * w (ix2 k l) := by
  pointwise [ref]

theorem lt_points (t : Fin cfg0.N) : t.val < 2 := t.isLt

/-- The first operand at the kernel's start: the memory's rows, flattened. -/
theorem V_rows (c : Dev nD) : V m c main_v0
    = shapeCast S1024x1024 (m ((c : Thread nD τ).loc main_arg0)) shapeCasts_S4x256x1024_S1024x1024 := by
  entry_read; rfl

/-- The second operand at the kernel's start: the weights. -/
theorem V_weights (c : Dev nD) : V m c main_v1
    = (truncf .bf16 (show FVec Ideal S1024x2048 .f32 from m ((c : Thread nD τ).loc main_arg1)) bitsLt_bf16_f32 : FVec Ideal S1024x2048 .bf16) := by
  entry_read; rfl

/-- Rows flattened, at an index. -/
theorem flat_at (x : FVec Ideal S4x256x1024 .f32) (r : Fin 1024) (k : Fin 1024) :
    shapeCast S1024x1024 x shapeCasts_S4x256x1024_S1024x1024 (ix2 r k)
      = x (ix3 ⟨r / 256, by omega⟩ ⟨r % 256, by omega⟩ k) := by
  pointwise

/-- The rows a point reads are the memory's. -/
theorem rows_at (c : Dev nD) (t : Fin cfg0.N) (r : Fin 512) (k : Fin 1024) :
    (show FVec Ideal S512x1024 .f32 from iblk m c 0 t) (ix2 r k)
      = (show FVec Ideal S4x256x1024 .f32 from m ((c : Thread nD τ).loc main_arg0))
          (ix3 ⟨(t.val * 512 + r) / 256, by have := lt_points t; omega⟩ ⟨(t.val * 512 + r) % 256, by omega⟩ k) := by
  have e : (show FVec Ideal S512x1024 .f32 from iblk m c 0 t) (ix2 r k)
      = (show FVec Ideal S1024x1024 .f32 from V m c main_v0) (ix2 ⟨t.val * 512 + r, by have := lt_points t; omega⟩ k) := by
    blk_ext [iblk, idx t]
  exact e.trans ((congrFun (V_rows m c) _).trans (flat_at _ _ k))

/-- The weights a point reads are the whole matrix. -/
theorem weights_at (c : Dev nD) (t : Fin cfg0.N) (k : Fin 1024) (l : Fin 2048) :
    (show FVec Ideal S1024x2048 .bf16 from iblk m c 1 t) (ix2 k l)
      = (show FVec Ideal S1024x2048 .f32 from m ((c : Thread nD τ).loc main_arg1)) (ix2 k l) := by
  have e : (show FVec Ideal S1024x2048 .bf16 from iblk m c 1 t) (ix2 k l)
      = (show FVec Ideal S1024x2048 .bf16 from V m c main_v1) (ix2 k l) := by
    blk_ext [iblk, idx t]
  exact e.trans (congrFun (V_weights m c) _)

/-- What a point stores is the reference at the array index of the same place. -/
theorem point (c : Dev nD) (t : Fin cfg0.N) (r : Fin 512) (l : Fin 2048) :
    k0_pay1 (F := Ideal) (iblk m c 0 t) (iblk m c 1 t) (ix2 r l)
      = ref (m ((c : Thread nD τ).loc main_arg0)) (m ((c : Thread nD τ).loc main_arg1))
          (ix2 ⟨t.val * 512 + r, by have := lt_points t; omega⟩ l) := by
  refine (pay_at _ _ r l).trans (Eq.trans ?_ (ref_at _ _ _ l).symm)
  exact Finset.sum_congr rfl fun k _ => congrArg₂ (· * ·) (rows_at m c t r k) (weights_at m c t k l)

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  refine (point m c t y0 y1).trans (congrArg _ ?_)
  blk_ext [idx t]

/-- The two programs end with the same array. -/
theorem algebraic : Cert.algebraic_MemKvIdeal_MemKvRefIdeal := by
  pair_intro
  · run_from Cert.MemKvIdeal.Gen.run_main m g
  · run_from Cert.MemKvRefIdeal.Value.run m' g'
    exact (final m c).symm

end Cert.MemKvValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.XattnRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.OutLn
public import proofs.«01_k».proof.Proof.Gen.OutLn.Skeleton
public import proofs.«01_k».proof.Proof.Gen.OutLn.Launch
public import proofs.«01_k».proof.Proof.Gen.OutLn.Points
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Points
public import proofs.«01_k».proof.Proof.Gen.OutLnIdeal.Frame
public import proofs.«01_k».proof.Proof.Gen.OutLnRefIdeal
public import proofs.«01_k».proof.Proof.Gen.OutLnRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.Pre_finite_scores
public import proofs.«01_k».proof.Proof.NaValue
public import proofs.«01_k».proof.Proof.FfnValue
public import proofs.«01_k».proof.Proof.XattnValue
public import proofs.«01_k».proof.Proof.QkvValue
public import proofs.«01_k».proof.Proof.OutLnValue
public import proofs.«01_k».proof.Proof.MemKvValue
public import Idealize.ShloMosaic.Adequacy
public import Idealize.ShloMosaic.Init

@[expose] public section

noncomputable section

namespace Cert.Proof

open Idealize.ShloMosaic Idealize.SL.Sem Cert.Ffn

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Xattn.Gen.facts, Cert.XattnIdeal.Gen.facts, Cert.XattnRefIdeal.Gen.facts, Cert.Qkv.Gen.facts, Cert.QkvIdeal.Gen.facts, Cert.QkvRefIdeal.Gen.facts, Cert.OutLn.Gen.facts, Cert.OutLnIdeal.Gen.facts, Cert.OutLnRefIdeal.Gen.facts, Cert.MemKv.Gen.facts, Cert.MemKvIdeal.Gen.facts, Cert.MemKvRefIdeal.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  fun m g _ => (θ_run _ _ _).mono
    (fun r h => ⟨fun c => (h c).2, sem_eq_zero_of_no_sems (by decide) r.2⟩) (Cert.ReferenceIdeal.Value.run m g),
  fun m g _ => (θ_run _ _ _).mono
    (fun r h => ⟨fun c => (h c).2, sem_eq_zero_of_no_sems (by decide) r.2⟩) (Cert.ReferenceIdeal.Value.run m g),
  fun m ρ _ => Cert.Ffn.Gen.frame m ρ,
  fun m ρ _ => Cert.FfnIdeal.Gen.frame m ρ,
  fun m g _ => (θ_run _ _ _).mono
    (fun r h => ⟨fun c => (h c).2, sem_eq_zero_of_no_sems (by decide) r.2⟩) (Cert.FfnRefIdeal.Value.run m g),
  fun m ρ _ => Cert.Xattn.Gen.frame m ρ,
  fun m ρ _ => Cert.XattnIdeal.Gen.frame m ρ,
  fun m g _ => (θ_run _ _ _).mono
    (fun r h => ⟨fun c => (h c).2.2.2, sem_eq_zero_of_no_sems (by decide) r.2⟩) (Cert.XattnRefIdeal.Value.run m g),
  fun m ρ _ => Cert.Qkv.Gen.frame m ρ,
  fun m ρ _ => Cert.QkvIdeal.Gen.frame m ρ,
  fun m g _ => (θ_run _ _ _).mono
    (fun r h => ⟨fun c => (h c).2.2.2, sem_eq_zero_of_no_sems (by decide) r.2⟩) (Cert.QkvRefIdeal.Value.run m g),
  fun m ρ _ => Cert.OutLn.Gen.frame m ρ,
  fun m ρ _ => Cert.OutLnIdeal.Gen.frame m ρ,
  fun m g _ => (θ_run _ _ _).mono
    (fun r h => ⟨fun c => (h c).2, sem_eq_zero_of_no_sems (by decide) r.2⟩) (Cert.OutLnRefIdeal.Value.run m g),
  fun m ρ _ => Cert.MemKv.Gen.frame m ρ,
  fun m ρ _ => Cert.MemKvIdeal.Gen.frame m ρ,
  fun m g _ => (θ_run _ _ _).mono
    (fun r h => ⟨fun c => (h c).2, sem_eq_zero_of_no_sems (by decide) r.2⟩) (Cert.MemKvRefIdeal.Value.run m g),
  trivial,
  Cert.NaValue.algebraic,
  trivial,
  Cert.FfnValue.algebraic,
  trivial,
  Cert.XattnValue.algebraic,
  trivial,
  Cert.QkvValue.algebraic,
  trivial,
  Cert.OutLnValue.algebraic,
  trivial,
  Cert.MemKvValue.algebraic⟩

end Cert.Proof

end
